-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v21)) (v1 : (c : Dev Cert.KernelIdeal.nD) → Buf (Elt Ideal) ((c.tc : Thread Cert.KernelIdeal.nD Cert.KernelIdeal.τ).loc Cert.KernelIdeal.main_v20_1)) (v2 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_v20_1) = v1 c
          ∧ r.2.mem ((c.tc : Thread Cert.KernelIdeal.nD Cert.KernelIdeal.τ).loc Cert.KernelIdeal.main_v32) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v185) = v0 c
          ∧ r.2.mem ((c.tc : Thread Cert.ReferenceIdeal.nD Cert.ReferenceIdeal.τ).loc Cert.ReferenceIdeal.main_v170) = v1 c
          ∧ r.2.mem ((c.tc : Thread Cert.ReferenceIdeal.nD Cert.ReferenceIdeal.τ).loc Cert.ReferenceIdeal.main_v179) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x64x2048 : Shape := ⟨3, ![4, 64, 2048]⟩
abbrev S256x64 : Shape := ⟨2, ![256, 64]⟩
abbrev S256 : Shape := ⟨1, ![256]⟩
abbrev S64x256 : Shape := ⟨2, ![64, 256]⟩
abbrev S64 : Shape := ⟨1, ![64]⟩
abbrev S1024x256 : Shape := ⟨2, ![1024, 256]⟩
abbrev S_ : Shape := ⟨0, ![]⟩
abbrev S1024 : Shape := ⟨1, ![1024]⟩
abbrev S1024x1 : Shape := ⟨2, ![1024, 1]⟩
abbrev S4x2048x64 : Shape := ⟨3, ![4, 2048, 64]⟩
abbrev S1x256 : Shape := ⟨2, ![1, 256]⟩
abbrev S1x64 : Shape := ⟨2, ![1, 64]⟩
abbrev S256x1024 : Shape := ⟨2, ![256, 1024]⟩
abbrev S4x2048x8 : Shape := ⟨3, ![4, 2048, 8]⟩
abbrev S8x128 : Shape := ⟨2, ![8, 128]⟩
abbrev S1x1024x64 : Shape := ⟨3, ![1, 1024, 64]⟩
abbrev S1x1024x8 : Shape := ⟨3, ![1, 1024, 8]⟩
abbrev S1024x1024 : Shape := ⟨2, ![1024, 1024]⟩
abbrev S1x1024x1024 : Shape := ⟨3, ![1, 1024, 1024]⟩
abbrev S1 : Shape := ⟨1, ![1]⟩
abbrev S1x1x1 : Shape := ⟨3, ![1, 1, 1]⟩
abbrev S1024x64 : Shape := ⟨2, ![1024, 64]⟩
abbrev S1x1024x256 : Shape := ⟨3, ![1, 1024, 256]⟩
abbrev S1x1024x1 : Shape := ⟨3, ![1, 1024, 1]⟩
abbrev S1x1 : Shape := ⟨2, ![1, 1]⟩
abbrev S1x8 : Shape := ⟨2, ![1, 8]⟩
abbrev S8 : Shape := ⟨1, ![8]⟩

abbrev nBuf : Space → Nat
  | .hbm => 50
  | .vmem => 16
  | .smem => 0
  | _ => 0

abbrev bufTy : (tb : Table) → Fin (tcTables nBuf tb) → BufTy
  | .hbm, ⟨0, _⟩ => ⟨S4x64x2048, .f32⟩
  | .hbm, ⟨1, _⟩ => ⟨S256x64, .f32⟩
  | .hbm, ⟨2, _⟩ => ⟨S256, .f32⟩
  | .hbm, ⟨3, _⟩ => ⟨S64x256, .f32⟩
  | .hbm, ⟨4, _⟩ => ⟨S64, .f32⟩
  | .hbm, ⟨5, _⟩ => ⟨S1024x256, .f32⟩
  | .hbm, ⟨6, _⟩ => ⟨S1024x256, .f32⟩
  | .hbm, ⟨7, _⟩ => ⟨S_, .f32⟩
  | .hbm, ⟨8, _⟩ => ⟨S1024, .f32⟩
  | .hbm, ⟨9, _⟩ => ⟨S1024x1, .f32⟩
  | .hbm, ⟨10, _⟩ => ⟨S1024x1, .f32⟩
  | .hbm, ⟨11, _⟩ => ⟨S_, .f32⟩
  | .hbm, ⟨12, _⟩ => ⟨S1024x1, .f32⟩
  | .hbm, ⟨13, _⟩ => ⟨S1024x1, .f32⟩
  | .hbm, ⟨14, _⟩ => ⟨S1024x256, .f32⟩
  | .hbm, ⟨15, _⟩ => ⟨S1024x256, .f32⟩
  | .hbm, ⟨16, _⟩ => ⟨S1024x256, .bf16⟩
  | .hbm, ⟨17, _⟩ => ⟨S1024x256, .f32⟩
  | .hbm, ⟨18, _⟩ => ⟨S1024x256, .f32⟩
  | .hbm, ⟨19, _⟩ => ⟨S1024x256, .bf16⟩
  | .hbm, ⟨20, _⟩ => ⟨S1024x256, .f32⟩
  | .hbm, ⟨21, _⟩ => ⟨S1024x256, .f32⟩
  | .hbm, ⟨22, _⟩ => ⟨S1024x256, .bf16⟩
  | .hbm, ⟨23, _⟩ => ⟨S1024x256, .bf16⟩
  | .hbm, ⟨24, _⟩ => ⟨S1024x256, .bf16⟩
  | .hbm, ⟨25, _⟩ => ⟨S4x2048x64, .f32⟩
  | .hbm, ⟨26, _⟩ => ⟨S64x256, .f32⟩
  | .hbm, ⟨27, _⟩ => ⟨S1x256, .f32⟩
  | .hbm, ⟨28, _⟩ => ⟨S256x64, .f32⟩
  | .hbm, ⟨29, _⟩ => ⟨S1x64, .f32⟩
  | .hbm, ⟨30, _⟩ => ⟨S256x1024, .f32⟩
  | .hbm, ⟨31, _⟩ => ⟨S4x2048x64, .f32⟩
  | .hbm, ⟨32, _⟩ => ⟨S4x2048x8, .i32⟩
  | .hbm, ⟨33, _⟩ => ⟨S8x128, .f32⟩
  | .hbm, ⟨34, _⟩ => ⟨S4x64x2048, .f32⟩
  | .hbm, ⟨35, _⟩ => ⟨S1x1, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S1x8, .f32⟩
  | .hbm, ⟨42, _⟩ => ⟨S8, .f32⟩
  | .hbm, ⟨43, _⟩ => ⟨S_, .f32⟩
  | .hbm, ⟨44, _⟩ => ⟨S8, .f32⟩
  | .hbm, ⟨45, _⟩ => ⟨S8, .f32⟩
  | .hbm, ⟨46, _⟩ => ⟨S_, .f32⟩
  | .hbm, ⟨47, _⟩ => ⟨S_, .f32⟩
  | .hbm, ⟨48, _⟩ => ⟨S8, .f32⟩
  | .hbm, ⟨49, _⟩ => ⟨S8, .f32⟩
  | .local _ .vmem, ⟨0, _⟩ => ⟨S1x1024x64, .f32⟩
  | .local _ .vmem, ⟨1, _⟩ => ⟨S1x1024x64, .f32⟩
  | .local _ .vmem, ⟨2, _⟩ => ⟨S64x256, .f32⟩
  | .local _ .vmem, ⟨3, _⟩ => ⟨S1x256, .f32⟩
  | .local _ .vmem, ⟨4, _⟩ => ⟨S256x64, .f32⟩
  | .local _ .vmem, ⟨5, _⟩ => ⟨S1x64, .f32⟩
  | .local _ .vmem, ⟨6, _⟩ => ⟨S1024x256, .f32⟩
  | .local _ .vmem, ⟨7, _⟩ => ⟨S256x1024, .f32⟩
  | .local _ .vmem, ⟨8, _⟩ => ⟨S1024x256, .bf16⟩
  | .local _ .vmem, ⟨9, _⟩ => ⟨S1024x256, .bf16⟩
  | .local _ .vmem, ⟨10, _⟩ => ⟨S1024x256, .bf16⟩
  | .local _ .vmem, ⟨11, _⟩ => ⟨S1x1024x64, .f32⟩
  | .local _ .vmem, ⟨12, _⟩ => ⟨S1x1024x64, .f32⟩
  | .local _ .vmem, ⟨13, _⟩ => ⟨S1x1024x8, .i32⟩
  | .local _ .vmem, ⟨14, _⟩ => ⟨S1x1024x8, .i32⟩
  | .local _ .vmem, ⟨15, _⟩ => ⟨S8x128, .f32⟩
  | _, _ => ⟨S4x64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_cst : Ref sig .tc := ⟨.hbm, 7, rfl⟩
abbrev main_call0_v1 : Ref sig .tc := ⟨.hbm, 8, rfl⟩
abbrev main_call0_v2 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20_0 : Ref sig .tc := ⟨.hbm, 31, rfl⟩
abbrev main_v20_1 : Ref sig .tc := ⟨.hbm, 32, rfl⟩
abbrev main_v20_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_0 : Ref sig .tc := ⟨.hbm, 37, rfl⟩
abbrev main_v24 : Ref sig .tc := ⟨.hbm, 38, rfl⟩
abbrev main_cst_1 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_2 : Ref sig .tc := ⟨.hbm, 43, rfl⟩
abbrev main_v28 : Ref sig .tc := ⟨.hbm, 44, rfl⟩
abbrev main_v29 : Ref sig .tc := ⟨.hbm, 45, rfl⟩
abbrev main_cst_3 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S64x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x1024x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x1024x8 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]
-- ==== ReferenceIdeal.lean ====
abbrev S4x64x2048 : Shape := ⟨3, ![4, 64, 2048]⟩
abbrev S256x64 : Shape := ⟨2, ![256, 64]⟩
abbrev S256 : Shape := ⟨1, ![256]⟩
abbrev S64x256 : Shape := ⟨2, ![64, 256]⟩
abbrev S64 : Shape := ⟨1, ![64]⟩
abbrev S1024x256 : Shape := ⟨2, ![1024, 256]⟩
abbrev S4x2048x256 : Shape := ⟨3, ![4, 2048, 256]⟩
abbrev S4x256x2048 : Shape := ⟨3, ![4, 256, 2048]⟩
abbrev S1x256x1 : Shape := ⟨3, ![1, 256, 1]⟩
abbrev S_ : Shape := ⟨0, ![]⟩
abbrev S1024 : Shape := ⟨1, ![1024]⟩
abbrev S1024x1 : Shape := ⟨2, ![1024, 1]⟩
abbrev S256x1024 : Shape := ⟨2, ![256, 1024]⟩
abbrev S1024x1024 : Shape := ⟨2, ![1024, 1024]⟩
abbrev S4x2048 : Shape := ⟨2, ![4, 2048]⟩
abbrev S4x2048x1 : Shape := ⟨3, ![4, 2048, 1]⟩
abbrev S4x2048x1024 : Shape := ⟨3, ![4, 2048, 1024]⟩
abbrev S1 : Shape := ⟨1, ![1]⟩
abbrev S1x1x1 : Shape := ⟨3, ![1, 1, 1]⟩
abbrev S4x2048x8 : Shape := ⟨3, ![4, 2048, 8]⟩
abbrev S8 : Shape := ⟨1, ![8]⟩
abbrev S4x2048x64 : Shape := ⟨3, ![4, 2048, 64]⟩
abbrev S1x64x1 : Shape := ⟨3, ![1, 64, 1]⟩

abbrev nBuf : Space → Nat
  | .hbm => 473
  | .vmem => 0
  | .smem => 0
  | _ => 0

abbrev hbmTy0_0 (i : Nat) : BufTy := match i % 128 with
  | 0 => ⟨S4x64x2048, .f32⟩
  | 1 => ⟨S256x64, .f32⟩
  | 2 => ⟨S256, .f32⟩
  | 3 => ⟨S64x256, .f32⟩
  | 4 => ⟨S64, .f32⟩
  | 5 => ⟨S1024x256, .f32⟩
  | 6 => ⟨S4x2048x256, .f32⟩
  | 7 => ⟨S4x256x2048, .f32⟩
  | 8 => ⟨S1x256x1, .f32⟩
  | 9 => ⟨S4x256x2048, .f32⟩
  | 10 => ⟨S4x256x2048, .f32⟩
  | 11 => ⟨S4x2048x256, .f32⟩
  | 12 => ⟨S1024x256, .f32⟩
  | 13 => ⟨S_, .f32⟩
  | 14 => ⟨S1024, .f32⟩
  | 15 => ⟨S1024x1, .f32⟩
  | 16 => ⟨S1024x1, .f32⟩
  | 17 => ⟨S_, .f32⟩
  | 18 => ⟨S1024x1, .f32⟩
  | 19 => ⟨S1024x1, .f32⟩
  | 20 => ⟨S1024x256, .f32⟩
  | 21 => ⟨S1024x256, .f32⟩
  | 22 => ⟨S256x1024, .f32⟩
  | 23 => ⟨S1024x1024, .f32⟩
  | 24 => ⟨S1024x1024, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S4x2048x256, .f32⟩
  | 33 => ⟨S4x2048x256, .f32⟩
  | 34 => ⟨S_, .f32⟩
  | 35 => ⟨S4x2048, .f32⟩
  | 36 => ⟨S4x2048x1, .f32⟩
  | 37 => ⟨S4x2048x1, .f32⟩
  | 38 => ⟨S_, .f32⟩
  | 39 => ⟨S4x2048x1, .f32⟩
  | 40 => ⟨S4x2048x1, .f32⟩
  | 41 => ⟨S4x2048x256, .f32⟩
  | 42 => ⟨S4x2048x256, .f32⟩
  | 43 => ⟨S4x2048x1024, .f32⟩
  | 44 => ⟨S4x2048x1024, .i32⟩
  | 45 => ⟨S_, .f32⟩
  | 46 => ⟨S_, .i32⟩
  | 47 => ⟨S4x2048, .f32⟩
  | 48 => ⟨S4x2048, .i32⟩
  | 49 => ⟨S_, .i32⟩
  | 50 => ⟨S4x2048, .i32⟩
  | 51 => ⟨S4x2048, .i1⟩
  | 52 => ⟨S_, .i32⟩
  | 53 => ⟨S4x2048, .i32⟩
  | 54 => ⟨S4x2048, .i32⟩
  | 55 => ⟨S4x2048, .i32⟩
  | 56 => ⟨S4x2048x1, .i32⟩
  | 57 => ⟨S1, .i32⟩
  | 58 => ⟨S_, .i32⟩
  | 59 => ⟨S4x2048x1, .i32⟩
  | 60 => ⟨S4x2048x1, .i1⟩
  | 61 => ⟨S1x1x1, .i32⟩
  | 62 => ⟨S4x2048x1, .i32⟩
  | 63 => ⟨S4x2048x1, .i1⟩
  | 64 => ⟨S4x2048x1, .i1⟩
  | 65 => ⟨S_, .i1⟩
  | 66 => ⟨S4x2048, .i1⟩
  | 67 => ⟨S4x2048x256, .f32⟩
  | 68 => ⟨S4x2048x256, .i1⟩
  | 69 => ⟨S_, .f32⟩
  | 70 => ⟨S4x2048x256, .f32⟩
  | 71 => ⟨S4x2048x256, .f32⟩
  | 72 => ⟨S4x2048x256, .f32⟩
  | 73 => ⟨S4x2048x256, .f32⟩
  | 74 => ⟨S4x2048x256, .f32⟩
  | 75 => ⟨S4x2048x256, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .f32⟩
  | 83 => ⟨S4x2048x256, .f32⟩
  | 84 => ⟨S4x2048x256, .f32⟩
  | 85 => ⟨S4x2048x256, .f32⟩
  | 86 => ⟨S_, .f32⟩
  | 87 => ⟨S4x2048, .f32⟩
  | 88 => ⟨S4x2048x1, .f32⟩
  | 89 => ⟨S4x2048x1, .f32⟩
  | 90 => ⟨S_, .f32⟩
  | 91 => ⟨S4x2048x1, .f32⟩
  | 92 => ⟨S4x2048x1, .f32⟩
  | 93 => ⟨S4x2048x256, .f32⟩
  | 94 => ⟨S4x2048x256, .f32⟩
  | 95 => ⟨S4x2048x1024, .f32⟩
  | 96 => ⟨S4x2048x1024, .i32⟩
  | 97 => ⟨S_, .f32⟩
  | 98 => ⟨S_, .i32⟩
  | 99 => ⟨S4x2048, .f32⟩
  | 100 => ⟨S4x2048, .i32⟩
  | 101 => ⟨S_, .i32⟩
  | 102 => ⟨S4x2048, .i32⟩
  | 103 => ⟨S4x2048, .i1⟩
  | 104 => ⟨S_, .i32⟩
  | 105 => ⟨S4x2048, .i32⟩
  | 106 => ⟨S4x2048, .i32⟩
  | 107 => ⟨S4x2048, .i32⟩
  | 108 => ⟨S4x2048x1, .i32⟩
  | 109 => ⟨S1, .i32⟩
  | 110 => ⟨S_, .i32⟩
  | 111 => ⟨S4x2048x1, .i32⟩
  | 112 => ⟨S4x2048x1, .i1⟩
  | 113 => ⟨S1x1x1, .i32⟩
  | 114 => ⟨S4x2048x1, .i32⟩
  | 115 => ⟨S4x2048x1, .i1⟩
  | 116 => ⟨S4x2048x1, .i1⟩
  | 117 => ⟨S_, .i1⟩
  | 118 => ⟨S4x2048, .i1⟩
  | 119 => ⟨S4x2048x256, .f32⟩
  | 120 => ⟨S4x2048x256, .i1⟩
  | 121 => ⟨S_, .f32⟩
  | 122 => ⟨S4x2048x256, .f32⟩
  | 123 => ⟨S4x2048x256, .f32⟩
  | 124 => ⟨S4x2048x256, .f32⟩
  | 125 => ⟨S4x2048x256, .f32⟩
  | 126 => ⟨S4x2048x256, .f32⟩
  | 127 => ⟨S4x2048x256, .f32⟩
  | _ => ⟨S4x64x2048, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S_, .f32⟩
  | 6 => ⟨S_, .f32⟩
  | 7 => ⟨S4x2048x256, .f32⟩
  | 8 => ⟨S4x2048x256, .f32⟩
  | 9 => ⟨S4x2048x256, .f32⟩
  | 10 => ⟨S_, .f32⟩
  | 11 => ⟨S4x2048, .f32⟩
  | 12 => ⟨S4x2048x1, .f32⟩
  | 13 => ⟨S4x2048x1, .f32⟩
  | 14 => ⟨S_, .f32⟩
  | 15 => ⟨S4x2048x1, .f32⟩
  | 16 => ⟨S4x2048x1, .f32⟩
  | 17 => ⟨S4x2048x256, .f32⟩
  | 18 => ⟨S4x2048x256, .f32⟩
  | 19 => ⟨S4x2048x1024, .f32⟩
  | 20 => ⟨S4x2048x1024, .i32⟩
  | 21 => ⟨S_, .f32⟩
  | 22 => ⟨S_, .i32⟩
  | 23 => ⟨S4x2048, .f32⟩
  | 24 => ⟨S4x2048, .i32⟩
  | 25 => ⟨S_, .i32⟩
  | 26 => ⟨S4x2048, .i32⟩
  | 27 => ⟨S4x2048, .i1⟩
  | 28 => ⟨S_, .i32⟩
  | 29 => ⟨S4x2048, .i32⟩
  | 30 => ⟨S4x2048, .i32⟩
  | 31 => ⟨S4x2048, .i32⟩
  | 32 => ⟨S4x2048x1, .i32⟩
  | 33 => ⟨S1, .i32⟩
  | 34 => ⟨S_, .i32⟩
  | 35 => ⟨S4x2048x1, .i32⟩
  | 36 => ⟨S4x2048x1, .i1⟩
  | 37 => ⟨S1x1x1, .i32⟩
  | 38 => ⟨S4x2048x1, .i32⟩
  | 39 => ⟨S4x2048x1, .i1⟩
  | 40 => ⟨S4x2048x1, .i1⟩
  | 41 => ⟨S_, .i1⟩
  | 42 => ⟨S4x2048, .i1⟩
  | 43 => ⟨S4x2048x256, .f32⟩
  | 44 => ⟨S4x2048x256, .i1⟩
  | 45 => ⟨S_, .f32⟩
  | 46 => ⟨S4x2048x256, .f32⟩
  | 47 => ⟨S4x2048x256, .f32⟩
  | 48 => ⟨S4x2048x256, .f32⟩
  | 49 => ⟨S4x2048x256, .f32⟩
  | 50 => ⟨S4x2048x256, .f32⟩
  | 51 => ⟨S4x2048x256, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S4x2048x256, .f32⟩
  | 60 => ⟨S4x2048x256, .f32⟩
  | 61 => ⟨S4x2048x256, .f32⟩
  | 62 => ⟨S_, .f32⟩
  | 63 => ⟨S4x2048, .f32⟩
  | 64 => ⟨S4x2048x1, .f32⟩
  | 65 => ⟨S4x2048x1, .f32⟩
  | 66 => ⟨S_, .f32⟩
  | 67 => ⟨S4x2048x1, .f32⟩
  | 68 => ⟨S4x2048x1, .f32⟩
  | 69 => ⟨S4x2048x256, .f32⟩
  | 70 => ⟨S4x2048x256, .f32⟩
  | 71 => ⟨S4x2048x1024, .f32⟩
  | 72 => ⟨S4x2048x1024, .i32⟩
  | 73 => ⟨S_, .f32⟩
  | 74 => ⟨S_, .i32⟩
  | 75 => ⟨S4x2048, .f32⟩
  | 76 => ⟨S4x2048, .i32⟩
  | 77 => ⟨S_, .i32⟩
  | 78 => ⟨S4x2048, .i32⟩
  | 79 => ⟨S4x2048, .i1⟩
  | 80 => ⟨S_, .i32⟩
  | 81 => ⟨S4x2048, .i32⟩
  | 82 => ⟨S4x2048, .i32⟩
  | 83 => ⟨S4x2048, .i32⟩
  | 84 => ⟨S4x2048x1, .i32⟩
  | 85 => ⟨S1, .i32⟩
  | 86 => ⟨S_, .i32⟩
  | 87 => ⟨S4x2048x1, .i32⟩
  | 88 => ⟨S4x2048x1, .i1⟩
  | 89 => ⟨S1x1x1, .i32⟩
  | 90 => ⟨S4x2048x1, .i32⟩
  | 91 => ⟨S4x2048x1, .i1⟩
  | 92 => ⟨S4x2048x1, .i1⟩
  | 93 => ⟨S_, .i1⟩
  | 94 => ⟨S4x2048, .i1⟩
  | 95 => ⟨S4x2048x256, .f32⟩
  | 96 => ⟨S4x2048x256, .i1⟩
  | 97 => ⟨S_, .f32⟩
  | 98 => ⟨S4x2048x256, .f32⟩
  | 99 => ⟨S4x2048x256, .f32⟩
  | 100 => ⟨S4x2048x256, .f32⟩
  | 101 => ⟨S4x2048x256, .f32⟩
  | 102 => ⟨S4x2048x256, .f32⟩
  | 103 => ⟨S4x2048x256, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S4x2048x256, .f32⟩
  | 112 => ⟨S4x2048x256, .f32⟩
  | 113 => ⟨S4x2048x256, .f32⟩
  | 114 => ⟨S_, .f32⟩
  | 115 => ⟨S4x2048, .f32⟩
  | 116 => ⟨S4x2048x1, .f32⟩
  | 117 => ⟨S4x2048x1, .f32⟩
  | 118 => ⟨S_, .f32⟩
  | 119 => ⟨S4x2048x1, .f32⟩
  | 120 => ⟨S4x2048x1, .f32⟩
  | 121 => ⟨S4x2048x256, .f32⟩
  | 122 => ⟨S4x2048x256, .f32⟩
  | 123 => ⟨S4x2048x1024, .f32⟩
  | 124 => ⟨S4x2048x1024, .i32⟩
  | 125 => ⟨S_, .f32⟩
  | 126 => ⟨S_, .i32⟩
  | 127 => ⟨S4x2048, .f32⟩
  | _ => ⟨S4x64x2048, .f32⟩

abbrev hbmTy0_2 (i : Nat) : BufTy := match i % 128 with
  | 0 => ⟨S4x2048, .i32⟩
  | 1 => ⟨S_, .i32⟩
  | 2 => ⟨S4x2048, .i32⟩
  | 3 => ⟨S4x2048, .i1⟩
  | 4 => ⟨S_, .i32⟩
  | 5 => ⟨S4x2048, .i32⟩
  | 6 => ⟨S4x2048, .i32⟩
  | 7 => ⟨S4x2048, .i32⟩
  | 8 => ⟨S4x2048x1, .i32⟩
  | 9 => ⟨S1, .i32⟩
  | 10 => ⟨S_, .i32⟩
  | 11 => ⟨S4x2048x1, .i32⟩
  | 12 => ⟨S4x2048x1, .i1⟩
  | 13 => ⟨S1x1x1, .i32⟩
  | 14 => ⟨S4x2048x1, .i32⟩
  | 15 => ⟨S4x2048x1, .i1⟩
  | 16 => ⟨S4x2048x1, .i1⟩
  | 17 => ⟨S_, .i1⟩
  | 18 => ⟨S4x2048, .i1⟩
  | 19 => ⟨S4x2048x256, .f32⟩
  | 20 => ⟨S4x2048x256, .i1⟩
  | 21 => ⟨S_, .f32⟩
  | 22 => ⟨S4x2048x256, .f32⟩
  | 23 => ⟨S4x2048x256, .f32⟩
  | 24 => ⟨S4x2048x256, .f32⟩
  | 25 => ⟨S4x2048x256, .f32⟩
  | 26 => ⟨S4x2048x256, .f32⟩
  | 27 => ⟨S4x2048x256, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S4x2048x256, .f32⟩
  | 36 => ⟨S4x2048x256, .f32⟩
  | 37 => ⟨S4x2048x256, .f32⟩
  | 38 => ⟨S_, .f32⟩
  | 39 => ⟨S4x2048, .f32⟩
  | 40 => ⟨S4x2048x1, .f32⟩
  | 41 => ⟨S4x2048x1, .f32⟩
  | 42 => ⟨S_, .f32⟩
  | 43 => ⟨S4x2048x1, .f32⟩
  | 44 => ⟨S4x2048x1, .f32⟩
  | 45 => ⟨S4x2048x256, .f32⟩
  | 46 => ⟨S4x2048x256, .f32⟩
  | 47 => ⟨S4x2048x1024, .f32⟩
  | 48 => ⟨S4x2048x1024, .i32⟩
  | 49 => ⟨S_, .f32⟩
  | 50 => ⟨S_, .i32⟩
  | 51 => ⟨S4x2048, .f32⟩
  | 52 => ⟨S4x2048, .i32⟩
  | 53 => ⟨S_, .i32⟩
  | 54 => ⟨S4x2048, .i32⟩
  | 55 => ⟨S4x2048, .i1⟩
  | 56 => ⟨S_, .i32⟩
  | 57 => ⟨S4x2048, .i32⟩
  | 58 => ⟨S4x2048, .i32⟩
  | 59 => ⟨S4x2048, .i32⟩
  | 60 => ⟨S4x2048x1, .i32⟩
  | 61 => ⟨S1, .i32⟩
  | 62 => ⟨S_, .i32⟩
  | 63 => ⟨S4x2048x1, .i32⟩
  | 64 => ⟨S4x2048x1, .i1⟩
  | 65 => ⟨S1x1x1, .i32⟩
  | 66 => ⟨S4x2048x1, .i32⟩
  | 67 => ⟨S4x2048x1, .i1⟩
  | 68 => ⟨S4x2048x1, .i1⟩
  | 69 => ⟨S_, .i1⟩
  | 70 => ⟨S4x2048, .i1⟩
  | 71 => ⟨S4x2048x256, .f32⟩
  | 72 => ⟨S4x2048x256, .i1⟩
  | 73 => ⟨S_, .f32⟩
  | 74 => ⟨S4x2048x256, .f32⟩
  | 75 => ⟨S4x2048x256, .f32⟩
  | 76 => ⟨S4x2048x256, .f32⟩
  | 77 => ⟨S4x2048x256, .f32⟩
  | 78 => ⟨S4x2048x256, .f32⟩
  | 79 => ⟨S4x2048x256, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S4x2048x256, .f32⟩
  | 88 => ⟨S4x2048x256, .f32⟩
  | 89 => ⟨S4x2048x256, .f32⟩
  | 90 => ⟨S_, .f32⟩
  | 91 => ⟨S4x2048, .f32⟩
  | 92 => ⟨S4x2048x1, .f32⟩
  | 93 => ⟨S4x2048x1, .f32⟩
  | 94 => ⟨S_, .f32⟩
  | 95 => ⟨S4x2048x1, .f32⟩
  | 96 => ⟨S4x2048x1, .f32⟩
  | 97 => ⟨S4x2048x256, .f32⟩
  | 98 => ⟨S4x2048x256, .f32⟩
  | 99 => ⟨S4x2048x1024, .f32⟩
  | 100 => ⟨S4x2048x1024, .i32⟩
  | 101 => ⟨S_, .f32⟩
  | 102 => ⟨S_, .i32⟩
  | 103 => ⟨S4x2048, .f32⟩
  | 104 => ⟨S4x2048, .i32⟩
  | 105 => ⟨S_, .i32⟩
  | 106 => ⟨S4x2048, .i32⟩
  | 107 => ⟨S4x2048, .i1⟩
  | 108 => ⟨S_, .i32⟩
  | 109 => ⟨S4x2048, .i32⟩
  | 110 => ⟨S4x2048, .i32⟩
  | 111 => ⟨S4x2048, .i32⟩
  | 112 => ⟨S4x2048x1, .i32⟩
  | 113 => ⟨S1, .i32⟩
  | 114 => ⟨S_, .i32⟩
  | 115 => ⟨S4x2048x1, .i32⟩
  | 116 => ⟨S4x2048x1, .i1⟩
  | 117 => ⟨S1x1x1, .i32⟩
  | 118 => ⟨S4x2048x1, .i32⟩
  | 119 => ⟨S4x2048x1, .i1⟩
  | 120 => ⟨S4x2048x1, .i1⟩
  | 121 => ⟨S_, .i1⟩
  | 122 => ⟨S4x2048, .i1⟩
  | 123 => ⟨S4x2048x256, .f32⟩
  | 124 => ⟨S4x2048x256, .i1⟩
  | 125 => ⟨S_, .f32⟩
  | 126 => ⟨S4x2048x256, .f32⟩
  | 127 => ⟨S4x2048x256, .f32⟩
  | _ => ⟨S4x64x2048, .f32⟩

abbrev hbmTy0_3 (i : Nat) : BufTy := match i % 128 with
  | 0 => ⟨S4x2048x256, .f32⟩
  | 1 => ⟨S4x2048x256, .f32⟩
  | 2 => ⟨S4x2048x256, .f32⟩
  | 3 => ⟨S4x2048x256, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S4x2048x256, .f32⟩
  | 12 => ⟨S4x2048x256, .f32⟩
  | 13 => ⟨S4x2048x256, .f32⟩
  | 14 => ⟨S_, .f32⟩
  | 15 => ⟨S4x2048, .f32⟩
  | 16 => ⟨S4x2048x1, .f32⟩
  | 17 => ⟨S4x2048x1, .f32⟩
  | 18 => ⟨S_, .f32⟩
  | 19 => ⟨S4x2048x1, .f32⟩
  | 20 => ⟨S4x2048x1, .f32⟩
  | 21 => ⟨S4x2048x256, .f32⟩
  | 22 => ⟨S4x2048x256, .f32⟩
  | 23 => ⟨S4x2048x1024, .f32⟩
  | 24 => ⟨S4x2048x1024, .i32⟩
  | 25 => ⟨S_, .f32⟩
  | 26 => ⟨S_, .i32⟩
  | 27 => ⟨S4x2048, .f32⟩
  | 28 => ⟨S4x2048, .i32⟩
  | 29 => ⟨S_, .i32⟩
  | 30 => ⟨S4x2048, .i32⟩
  | 31 => ⟨S4x2048, .i1⟩
  | 32 => ⟨S_, .i32⟩
  | 33 => ⟨S4x2048, .i32⟩
  | 34 => ⟨S4x2048, .i32⟩
  | 35 => ⟨S4x2048, .i32⟩
  | 36 => ⟨S4x2048x1, .i32⟩
  | 37 => ⟨S1, .i32⟩
  | 38 => ⟨S_, .i32⟩
  | 39 => ⟨S4x2048x1, .i32⟩
  | 40 => ⟨S4x2048x1, .i1⟩
  | 41 => ⟨S1x1x1, .i32⟩
  | 42 => ⟨S4x2048x1, .i32⟩
  | 43 => ⟨S4x2048x1, .i1⟩
  | 44 => ⟨S4x2048x1, .i1⟩
  | 45 => ⟨S_, .i1⟩
  | 46 => ⟨S4x2048, .i1⟩
  | 47 => ⟨S4x2048x256, .f32⟩
  | 48 => ⟨S4x2048x256, .i1⟩
  | 49 => ⟨S_, .f32⟩
  | 50 => ⟨S4x2048x256, .f32⟩
  | 51 => ⟨S4x2048x256, .f32⟩
  | 52 => ⟨S4x2048x256, .f32⟩
  | 53 => ⟨S4x2048x256, .f32⟩
  | 54 => ⟨S4x2048x256, .f32⟩
  | 55 => ⟨S4x2048x256, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S_, .f32⟩
  | 63 => ⟨S4x2048x256, .f32⟩
  | 64 => ⟨S4x2048x256, .f32⟩
  | 65 => ⟨S4x2048x1, .i32⟩
  | 66 => ⟨S4x2048x1, .i32⟩
  | 67 => ⟨S4x2048x1, .i32⟩
  | 68 => ⟨S4x2048x1, .i32⟩
  | 69 => ⟨S4x2048x1, .i32⟩
  | 70 => ⟨S4x2048x1, .i32⟩
  | 71 => ⟨S4x2048x1, .i32⟩
  | 72 => ⟨S4x2048x1, .i32⟩
  | 73 => ⟨S4x2048x8, .i32⟩
  | 74 => ⟨S1, .f32⟩
  | 75 => ⟨S1, .f32⟩
  | 76 => ⟨S1, .f32⟩
  | 77 => ⟨S1, .f32⟩
  | 78 => ⟨S1, .f32⟩
  | 79 => ⟨S1, .f32⟩
  | 80 => ⟨S1, .f32⟩
  | 81 => ⟨S1, .f32⟩
  | 82 => ⟨S8, .f32⟩
  | 83 => ⟨S4x256x2048, .f32⟩
  | 84 => ⟨S4x2048x64, .f32⟩
  | 85 => ⟨S4x64x2048, .f32⟩
  | 86 => ⟨S1x64x1, .f32⟩
  | 87 => ⟨S4x64x2048, .f32⟩
  | 88 => ⟨S4x64x2048, .f32⟩
  | _ => ⟨S4x64x2048, .f32⟩

abbrev hbmTy (i : Nat) : BufTy := match i / 128 with
  | 0 => hbmTy0_0 i
  | 1 => hbmTy0_1 i
  | 2 => hbmTy0_2 i
  | 3 => hbmTy0_3 i
  | _ => ⟨S4x64x2048, .f32⟩

abbrev bufTy : (tb : Table) → Fin (tcTables nBuf tb) → BufTy
  | .hbm, ⟨i, _⟩ => hbmTy i
  | _, _ => ⟨S4x64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_call0_v2 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_0 : Ref sig .tc := ⟨.hbm, 25, rfl⟩
abbrev main_v14 : Ref sig .tc := ⟨.hbm, 26, rfl⟩
abbrev main_cst_1 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_cst_3 : Ref sig .tc := ⟨.hbm, 31, rfl⟩
abbrev main_v17 : Ref sig .tc := ⟨.hbm, 32, rfl⟩
abbrev main_call1_v0 : Ref sig .tc := ⟨.hbm, 33, rfl⟩
abbrev main_call1_cst : Ref sig .tc := ⟨.hbm, 34, rfl⟩
abbrev main_call1_v1 : Ref sig .tc := ⟨.hbm, 35, rfl⟩
abbrev main_call1_v2 : Ref sig .tc := ⟨.hbm, 36, rfl⟩
abbrev main_v18 : Ref sig .tc := ⟨.hbm, 37, rfl⟩
abbrev main_cst_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_call2_v0 : Ref sig .tc := ⟨.hbm, 44, rfl⟩
abbrev main_call2_cst : Ref sig .tc := ⟨.hbm, 45, rfl⟩
abbrev main_call2_c : Ref sig .tc := ⟨.hbm, 46, rfl⟩
abbrev main_call2_v1_0 : Ref sig .tc := ⟨.hbm, 47, rfl⟩
abbrev main_v24 : Ref sig .tc := ⟨.hbm, 48, rfl⟩
abbrev main_call3_c : Ref sig .tc := ⟨.hbm, 49, rfl⟩
abbrev main_call3_v0 : Ref sig .tc := ⟨.hbm, 50, rfl⟩
abbrev main_call3_v1 : Ref sig .tc := ⟨.hbm, 51, rfl⟩
abbrev main_call3_c_0 : Ref sig .tc := ⟨.hbm, 52, rfl⟩
abbrev main_call3_v2 : Ref sig .tc := ⟨.hbm, 53, rfl⟩
abbrev main_call3_v3 : Ref sig .tc := ⟨.hbm, 54, rfl⟩
abbrev main_call3_v4 : Ref sig .tc := ⟨.hbm, 55, rfl⟩
abbrev main_call3_v5 : Ref sig .tc := ⟨.hbm, 56, rfl⟩
abbrev main_call3_c_1 : Ref sig .tc := ⟨.hbm, 57, rfl⟩
abbrev main_call3_c_2 : Ref sig .tc := ⟨.hbm, 58, rfl⟩
abbrev main_call3_v6 : Ref sig .tc := ⟨.hbm, 59, rfl⟩
abbrev main_call3_v7 : Ref sig .tc := ⟨.hbm, 60, rfl⟩
abbrev main_call3_v8 : Ref sig .tc := ⟨.hbm, 61, rfl⟩
abbrev main_call3_v9 : Ref sig .tc := ⟨.hbm, 62, rfl⟩
abbrev main_call3_v10 : Ref sig .tc := ⟨.hbm, 63, rfl⟩
abbrev main_call3_v11 : Ref sig .tc := ⟨.hbm, 64, rfl⟩
abbrev main_call3_c_3 : Ref sig .tc := ⟨.hbm, 65, rfl⟩
abbrev main_call3_v12 : Ref sig .tc := ⟨.hbm, 66, rfl⟩
abbrev main_call3_v13 : Ref sig .tc := ⟨.hbm, 67, rfl⟩
abbrev main_call3_v14 : Ref sig .tc := ⟨.hbm, 68, rfl⟩
abbrev main_call3_cst : Ref sig .tc := ⟨.hbm, 69, rfl⟩
abbrev main_call3_v15 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_cst_5 : Ref sig .tc := ⟨.hbm, 76, rfl⟩
abbrev main_v30 : Ref sig .tc := ⟨.hbm, 77, rfl⟩
abbrev main_cst_6 : Ref sig .tc := ⟨.hbm, 78, rfl⟩
abbrev main_v31 : Ref sig .tc := ⟨.hbm, 79, rfl⟩
abbrev main_cst_7 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_v35 : Ref sig .tc := ⟨.hbm, 84, rfl⟩
abbrev main_call4_v0 : Ref sig .tc := ⟨.hbm, 85, rfl⟩
abbrev main_call4_cst : Ref sig .tc := ⟨.hbm, 86, rfl⟩
abbrev main_call4_v1 : Ref sig .tc := ⟨.hbm, 87, rfl⟩
abbrev main_call4_v2 : Ref sig .tc := ⟨.hbm, 88, rfl⟩
abbrev main_v36 : Ref sig .tc := ⟨.hbm, 89, rfl⟩
abbrev main_cst_8 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_v41 : Ref sig .tc := ⟨.hbm, 95, rfl⟩
abbrev main_call5_v0 : Ref sig .tc := ⟨.hbm, 96, rfl⟩
abbrev main_call5_cst : Ref sig .tc := ⟨.hbm, 97, rfl⟩
abbrev main_call5_c : Ref sig .tc := ⟨.hbm, 98, rfl⟩
abbrev main_call5_v1_0 : Ref sig .tc := ⟨.hbm, 99, rfl⟩
abbrev main_v42 : Ref sig .tc := ⟨.hbm, 100, rfl⟩
abbrev main_call6_c : Ref sig .tc := ⟨.hbm, 101, rfl⟩
abbrev main_call6_v0 : Ref sig .tc := ⟨.hbm, 102, rfl⟩
abbrev main_call6_v1 : Ref sig .tc := ⟨.hbm, 103, rfl⟩
abbrev main_call6_c_0 : Ref sig .tc := ⟨.hbm, 104, rfl⟩
abbrev main_call6_v2 : Ref sig .tc := ⟨.hbm, 105, rfl⟩
abbrev main_call6_v3 : Ref sig .tc := ⟨.hbm, 106, rfl⟩
abbrev main_call6_v4 : Ref sig .tc := ⟨.hbm, 107, rfl⟩
abbrev main_call6_v5 : Ref sig .tc := ⟨.hbm, 108, rfl⟩
abbrev main_call6_c_1 : Ref sig .tc := ⟨.hbm, 109, rfl⟩
abbrev main_call6_c_2 : Ref sig .tc := ⟨.hbm, 110, rfl⟩
abbrev main_call6_v6 : Ref sig .tc := ⟨.hbm, 111, rfl⟩
abbrev main_call6_v7 : Ref sig .tc := ⟨.hbm, 112, rfl⟩
abbrev main_call6_v8 : Ref sig .tc := ⟨.hbm, 113, rfl⟩
abbrev main_call6_v9 : Ref sig .tc := ⟨.hbm, 114, rfl⟩
abbrev main_call6_v10 : Ref sig .tc := ⟨.hbm, 115, rfl⟩
abbrev main_call6_v11 : Ref sig .tc := ⟨.hbm, 116, rfl⟩
abbrev main_call6_c_3 : Ref sig .tc := ⟨.hbm, 117, rfl⟩
abbrev main_call6_v12 : Ref sig .tc := ⟨.hbm, 118, rfl⟩
abbrev main_call6_v13 : Ref sig .tc := ⟨.hbm, 119, rfl⟩
abbrev main_call6_v14 : Ref sig .tc := ⟨.hbm, 120, rfl⟩
abbrev main_call6_cst : Ref sig .tc := ⟨.hbm, 121, rfl⟩
abbrev main_call6_v15 : Ref sig .tc := ⟨.hbm, 122, rfl⟩
abbrev main_v43 : Ref sig .tc := ⟨.hbm, 123, rfl⟩
abbrev main_v44 : Ref sig .tc := ⟨.hbm, 124, rfl⟩
abbrev main_v45 : Ref sig .tc := ⟨.hbm, 125, rfl⟩
abbrev main_v46 : Ref sig .tc := ⟨.hbm, 126, rfl⟩
abbrev main_v47 : Ref sig .tc := ⟨.hbm, 127, rfl⟩
abbrev main_cst_9 : Ref sig .tc := ⟨.hbm, 128, rfl⟩
abbrev main_v48 : Ref sig .tc := ⟨.hbm, 129, rfl⟩
abbrev main_cst_10 : Ref sig .tc := ⟨.hbm, 130, rfl⟩
abbrev main_v49 : Ref sig .tc := ⟨.hbm, 131, rfl⟩
abbrev main_cst_11 : Ref sig .tc := ⟨.hbm, 132, rfl⟩
abbrev main_v50 : Ref sig .tc := ⟨.hbm, 133, rfl⟩
abbrev main_v51 : Ref sig .tc := ⟨.hbm, 134, rfl⟩
abbrev main_v52 : Ref sig .tc := ⟨.hbm, 135, rfl⟩
abbrev main_v53 : Ref sig .tc := ⟨.hbm, 136, rfl⟩
abbrev main_call7_v0 : Ref sig .tc := ⟨.hbm, 137, rfl⟩
abbrev main_call7_cst : Ref sig .tc := ⟨.hbm, 138, rfl⟩
abbrev main_call7_v1 : Ref sig .tc := ⟨.hbm, 139, rfl⟩
abbrev main_call7_v2 : Ref sig .tc := ⟨.hbm, 140, rfl⟩
abbrev main_v54 : Ref sig .tc := ⟨.hbm, 141, rfl⟩
abbrev main_cst_12 : Ref sig .tc := ⟨.hbm, 142, rfl⟩
abbrev main_v55 : Ref sig .tc := ⟨.hbm, 143, rfl⟩
abbrev main_v56 : Ref sig .tc := ⟨.hbm, 144, rfl⟩
abbrev main_v57 : Ref sig .tc := ⟨.hbm, 145, rfl⟩
abbrev main_v58 : Ref sig .tc := ⟨.hbm, 146, rfl⟩
abbrev main_v59 : Ref sig .tc := ⟨.hbm, 147, rfl⟩
abbrev main_call8_v0 : Ref sig .tc := ⟨.hbm, 148, rfl⟩
abbrev main_call8_cst : Ref sig .tc := ⟨.hbm, 149, rfl⟩
abbrev main_call8_c : Ref sig .tc := ⟨.hbm, 150, rfl⟩
abbrev main_call8_v1_0 : Ref sig .tc := ⟨.hbm, 151, rfl⟩
abbrev main_v60 : Ref sig .tc := ⟨.hbm, 152, rfl⟩
abbrev main_call9_c : Ref sig .tc := ⟨.hbm, 153, rfl⟩
abbrev main_call9_v0 : Ref sig .tc := ⟨.hbm, 154, rfl⟩
abbrev main_call9_v1 : Ref sig .tc := ⟨.hbm, 155, rfl⟩
abbrev main_call9_c_0 : Ref sig .tc := ⟨.hbm, 156, rfl⟩
abbrev main_call9_v2 : Ref sig .tc := ⟨.hbm, 157, rfl⟩
abbrev main_call9_v3 : Ref sig .tc := ⟨.hbm, 158, rfl⟩
abbrev main_call9_v4 : Ref sig .tc := ⟨.hbm, 159, rfl⟩
abbrev main_call9_v5 : Ref sig .tc := ⟨.hbm, 160, rfl⟩
abbrev main_call9_c_1 : Ref sig .tc := ⟨.hbm, 161, rfl⟩
abbrev main_call9_c_2 : Ref sig .tc := ⟨.hbm, 162, rfl⟩
abbrev main_call9_v6 : Ref sig .tc := ⟨.hbm, 163, rfl⟩
abbrev main_call9_v7 : Ref sig .tc := ⟨.hbm, 164, rfl⟩
abbrev main_call9_v8 : Ref sig .tc := ⟨.hbm, 165, rfl⟩
abbrev main_call9_v9 : Ref sig .tc := ⟨.hbm, 166, rfl⟩
abbrev main_call9_v10 : Ref sig .tc := ⟨.hbm, 167, rfl⟩
abbrev main_call9_v11 : Ref sig .tc := ⟨.hbm, 168, rfl⟩
abbrev main_call9_c_3 : Ref sig .tc := ⟨.hbm, 169, rfl⟩
abbrev main_call9_v12 : Ref sig .tc := ⟨.hbm, 170, rfl⟩
abbrev main_call9_v13 : Ref sig .tc := ⟨.hbm, 171, rfl⟩
abbrev main_call9_v14 : Ref sig .tc := ⟨.hbm, 172, rfl⟩
abbrev main_call9_cst : Ref sig .tc := ⟨.hbm, 173, rfl⟩
abbrev main_call9_v15 : Ref sig .tc := ⟨.hbm, 174, rfl⟩
abbrev main_v61 : Ref sig .tc := ⟨.hbm, 175, rfl⟩
abbrev main_v62 : Ref sig .tc := ⟨.hbm, 176, rfl⟩
abbrev main_v63 : Ref sig .tc := ⟨.hbm, 177, rfl⟩
abbrev main_v64 : Ref sig .tc := ⟨.hbm, 178, rfl⟩
abbrev main_v65 : Ref sig .tc := ⟨.hbm, 179, rfl⟩
abbrev main_cst_13 : Ref sig .tc := ⟨.hbm, 180, rfl⟩
abbrev main_v66 : Ref sig .tc := ⟨.hbm, 181, rfl⟩
abbrev main_cst_14 : Ref sig .tc := ⟨.hbm, 182, rfl⟩
abbrev main_v67 : Ref sig .tc := ⟨.hbm, 183, rfl⟩
abbrev main_cst_15 : Ref sig .tc := ⟨.hbm, 184, rfl⟩
abbrev main_v68 : Ref sig .tc := ⟨.hbm, 185, rfl⟩
abbrev main_v69 : Ref sig .tc := ⟨.hbm, 186, rfl⟩
abbrev main_v70 : Ref sig .tc := ⟨.hbm, 187, rfl⟩
abbrev main_v71 : Ref sig .tc := ⟨.hbm, 188, rfl⟩
abbrev main_call10_v0 : Ref sig .tc := ⟨.hbm, 189, rfl⟩
abbrev main_call10_cst : Ref sig .tc := ⟨.hbm, 190, rfl⟩
abbrev main_call10_v1 : Ref sig .tc := ⟨.hbm, 191, rfl⟩
abbrev main_call10_v2 : Ref sig .tc := ⟨.hbm, 192, rfl⟩
abbrev main_v72 : Ref sig .tc := ⟨.hbm, 193, rfl⟩
abbrev main_cst_16 : Ref sig .tc := ⟨.hbm, 194, rfl⟩
abbrev main_v73 : Ref sig .tc := ⟨.hbm, 195, rfl⟩
abbrev main_v74 : Ref sig .tc := ⟨.hbm, 196, rfl⟩
abbrev main_v75 : Ref sig .tc := ⟨.hbm, 197, rfl⟩
abbrev main_v76 : Ref sig .tc := ⟨.hbm, 198, rfl⟩
abbrev main_v77 : Ref sig .tc := ⟨.hbm, 199, rfl⟩
abbrev main_call11_v0 : Ref sig .tc := ⟨.hbm, 200, rfl⟩
abbrev main_call11_cst : Ref sig .tc := ⟨.hbm, 201, rfl⟩
abbrev main_call11_c : Ref sig .tc := ⟨.hbm, 202, rfl⟩
abbrev main_call11_v1_0 : Ref sig .tc := ⟨.hbm, 203, rfl⟩
abbrev main_v78 : Ref sig .tc := ⟨.hbm, 204, rfl⟩
abbrev main_call12_c : Ref sig .tc := ⟨.hbm, 205, rfl⟩
abbrev main_call12_v0 : Ref sig .tc := ⟨.hbm, 206, rfl⟩
abbrev main_call12_v1 : Ref sig .tc := ⟨.hbm, 207, rfl⟩
abbrev main_call12_c_0 : Ref sig .tc := ⟨.hbm, 208, rfl⟩
abbrev main_call12_v2 : Ref sig .tc := ⟨.hbm, 209, rfl⟩
abbrev main_call12_v3 : Ref sig .tc := ⟨.hbm, 210, rfl⟩
abbrev main_call12_v4 : Ref sig .tc := ⟨.hbm, 211, rfl⟩
abbrev main_call12_v5 : Ref sig .tc := ⟨.hbm, 212, rfl⟩
abbrev main_call12_c_1 : Ref sig .tc := ⟨.hbm, 213, rfl⟩
abbrev main_call12_c_2 : Ref sig .tc := ⟨.hbm, 214, rfl⟩
abbrev main_call12_v6 : Ref sig .tc := ⟨.hbm, 215, rfl⟩
abbrev main_call12_v7 : Ref sig .tc := ⟨.hbm, 216, rfl⟩
abbrev main_call12_v8 : Ref sig .tc := ⟨.hbm, 217, rfl⟩
abbrev main_call12_v9 : Ref sig .tc := ⟨.hbm, 218, rfl⟩
abbrev main_call12_v10 : Ref sig .tc := ⟨.hbm, 219, rfl⟩
abbrev main_call12_v11 : Ref sig .tc := ⟨.hbm, 220, rfl⟩
abbrev main_call12_c_3 : Ref sig .tc := ⟨.hbm, 221, rfl⟩
abbrev main_call12_v12 : Ref sig .tc := ⟨.hbm, 222, rfl⟩
abbrev main_call12_v13 : Ref sig .tc := ⟨.hbm, 223, rfl⟩
abbrev main_call12_v14 : Ref sig .tc := ⟨.hbm, 224, rfl⟩
abbrev main_call12_cst : Ref sig .tc := ⟨.hbm, 225, rfl⟩
abbrev main_call12_v15 : Ref sig .tc := ⟨.hbm, 226, rfl⟩
abbrev main_v79 : Ref sig .tc := ⟨.hbm, 227, rfl⟩
abbrev main_v80 : Ref sig .tc := ⟨.hbm, 228, rfl⟩
abbrev main_v81 : Ref sig .tc := ⟨.hbm, 229, rfl⟩
abbrev main_v82 : Ref sig .tc := ⟨.hbm, 230, rfl⟩
abbrev main_v83 : Ref sig .tc := ⟨.hbm, 231, rfl⟩
abbrev main_cst_17 : Ref sig .tc := ⟨.hbm, 232, rfl⟩
abbrev main_v84 : Ref sig .tc := ⟨.hbm, 233, rfl⟩
abbrev main_cst_18 : Ref sig .tc := ⟨.hbm, 234, rfl⟩
abbrev main_v85 : Ref sig .tc := ⟨.hbm, 235, rfl⟩
abbrev main_cst_19 : Ref sig .tc := ⟨.hbm, 236, rfl⟩
abbrev main_v86 : Ref sig .tc := ⟨.hbm, 237, rfl⟩
abbrev main_v87 : Ref sig .tc := ⟨.hbm, 238, rfl⟩
abbrev main_v88 : Ref sig .tc := ⟨.hbm, 239, rfl⟩
abbrev main_v89 : Ref sig .tc := ⟨.hbm, 240, rfl⟩
abbrev main_call13_v0 : Ref sig .tc := ⟨.hbm, 241, rfl⟩
abbrev main_call13_cst : Ref sig .tc := ⟨.hbm, 242, rfl⟩
abbrev main_call13_v1 : Ref sig .tc := ⟨.hbm, 243, rfl⟩
abbrev main_call13_v2 : Ref sig .tc := ⟨.hbm, 244, rfl⟩
abbrev main_v90 : Ref sig .tc := ⟨.hbm, 245, rfl⟩
abbrev main_cst_20 : Ref sig .tc := ⟨.hbm, 246, rfl⟩
abbrev main_v91 : Ref sig .tc := ⟨.hbm, 247, rfl⟩
abbrev main_v92 : Ref sig .tc := ⟨.hbm, 248, rfl⟩
abbrev main_v93 : Ref sig .tc := ⟨.hbm, 249, rfl⟩
abbrev main_v94 : Ref sig .tc := ⟨.hbm, 250, rfl⟩
abbrev main_v95 : Ref sig .tc := ⟨.hbm, 251, rfl⟩
abbrev main_call14_v0 : Ref sig .tc := ⟨.hbm, 252, rfl⟩
abbrev main_call14_cst : Ref sig .tc := ⟨.hbm, 253, rfl⟩
abbrev main_call14_c : Ref sig .tc := ⟨.hbm, 254, rfl⟩
abbrev main_call14_v1_0 : Ref sig .tc := ⟨.hbm, 255, rfl⟩
abbrev main_v96 : Ref sig .tc := ⟨.hbm, 256, rfl⟩
abbrev main_call15_c : Ref sig .tc := ⟨.hbm, 257, rfl⟩
abbrev main_call15_v0 : Ref sig .tc := ⟨.hbm, 258, rfl⟩
abbrev main_call15_v1 : Ref sig .tc := ⟨.hbm, 259, rfl⟩
abbrev main_call15_c_0 : Ref sig .tc := ⟨.hbm, 260, rfl⟩
abbrev main_call15_v2 : Ref sig .tc := ⟨.hbm, 261, rfl⟩
abbrev main_call15_v3 : Ref sig .tc := ⟨.hbm, 262, rfl⟩
abbrev main_call15_v4 : Ref sig .tc := ⟨.hbm, 263, rfl⟩
abbrev main_call15_v5 : Ref sig .tc := ⟨.hbm, 264, rfl⟩
abbrev main_call15_c_1 : Ref sig .tc := ⟨.hbm, 265, rfl⟩
abbrev main_call15_c_2 : Ref sig .tc := ⟨.hbm, 266, rfl⟩
abbrev main_call15_v6 : Ref sig .tc := ⟨.hbm, 267, rfl⟩
abbrev main_call15_v7 : Ref sig .tc := ⟨.hbm, 268, rfl⟩
abbrev main_call15_v8 : Ref sig .tc := ⟨.hbm, 269, rfl⟩
abbrev main_call15_v9 : Ref sig .tc := ⟨.hbm, 270, rfl⟩
abbrev main_call15_v10 : Ref sig .tc := ⟨.hbm, 271, rfl⟩
abbrev main_call15_v11 : Ref sig .tc := ⟨.hbm, 272, rfl⟩
abbrev main_call15_c_3 : Ref sig .tc := ⟨.hbm, 273, rfl⟩
abbrev main_call15_v12 : Ref sig .tc := ⟨.hbm, 274, rfl⟩
abbrev main_call15_v13 : Ref sig .tc := ⟨.hbm, 275, rfl⟩
abbrev main_call15_v14 : Ref sig .tc := ⟨.hbm, 276, rfl⟩
abbrev main_call15_cst : Ref sig .tc := ⟨.hbm, 277, rfl⟩
abbrev main_call15_v15 : Ref sig .tc := ⟨.hbm, 278, rfl⟩
abbrev main_v97 : Ref sig .tc := ⟨.hbm, 279, rfl⟩
abbrev main_v98 : Ref sig .tc := ⟨.hbm, 280, rfl⟩
abbrev main_v99 : Ref sig .tc := ⟨.hbm, 281, rfl⟩
abbrev main_v100 : Ref sig .tc := ⟨.hbm, 282, rfl⟩
abbrev main_v101 : Ref sig .tc := ⟨.hbm, 283, rfl⟩
abbrev main_cst_21 : Ref sig .tc := ⟨.hbm, 284, rfl⟩
abbrev main_v102 : Ref sig .tc := ⟨.hbm, 285, rfl⟩
abbrev main_cst_22 : Ref sig .tc := ⟨.hbm, 286, rfl⟩
abbrev main_v103 : Ref sig .tc := ⟨.hbm, 287, rfl⟩
abbrev main_cst_23 : Ref sig .tc := ⟨.hbm, 288, rfl⟩
abbrev main_v104 : Ref sig .tc := ⟨.hbm, 289, rfl⟩
abbrev main_v105 : Ref sig .tc := ⟨.hbm, 290, rfl⟩
abbrev main_v106 : Ref sig .tc := ⟨.hbm, 291, rfl⟩
abbrev main_v107 : Ref sig .tc := ⟨.hbm, 292, rfl⟩
abbrev main_call16_v0 : Ref sig .tc := ⟨.hbm, 293, rfl⟩
abbrev main_call16_cst : Ref sig .tc := ⟨.hbm, 294, rfl⟩
abbrev main_call16_v1 : Ref sig .tc := ⟨.hbm, 295, rfl⟩
abbrev main_call16_v2 : Ref sig .tc := ⟨.hbm, 296, rfl⟩
abbrev main_v108 : Ref sig .tc := ⟨.hbm, 297, rfl⟩
abbrev main_cst_24 : Ref sig .tc := ⟨.hbm, 298, rfl⟩
abbrev main_v109 : Ref sig .tc := ⟨.hbm, 299, rfl⟩
abbrev main_v110 : Ref sig .tc := ⟨.hbm, 300, rfl⟩
abbrev main_v111 : Ref sig .tc := ⟨.hbm, 301, rfl⟩
abbrev main_v112 : Ref sig .tc := ⟨.hbm, 302, rfl⟩
abbrev main_v113 : Ref sig .tc := ⟨.hbm, 303, rfl⟩
abbrev main_call17_v0 : Ref sig .tc := ⟨.hbm, 304, rfl⟩
abbrev main_call17_cst : Ref sig .tc := ⟨.hbm, 305, rfl⟩
abbrev main_call17_c : Ref sig .tc := ⟨.hbm, 306, rfl⟩
abbrev main_call17_v1_0 : Ref sig .tc := ⟨.hbm, 307, rfl⟩
abbrev main_v114 : Ref sig .tc := ⟨.hbm, 308, rfl⟩
abbrev main_call18_c : Ref sig .tc := ⟨.hbm, 309, rfl⟩
abbrev main_call18_v0 : Ref sig .tc := ⟨.hbm, 310, rfl⟩
abbrev main_call18_v1 : Ref sig .tc := ⟨.hbm, 311, rfl⟩
abbrev main_call18_c_0 : Ref sig .tc := ⟨.hbm, 312, rfl⟩
abbrev main_call18_v2 : Ref sig .tc := ⟨.hbm, 313, rfl⟩
abbrev main_call18_v3 : Ref sig .tc := ⟨.hbm, 314, rfl⟩
abbrev main_call18_v4 : Ref sig .tc := ⟨.hbm, 315, rfl⟩
abbrev main_call18_v5 : Ref sig .tc := ⟨.hbm, 316, rfl⟩
abbrev main_call18_c_1 : Ref sig .tc := ⟨.hbm, 317, rfl⟩
abbrev main_call18_c_2 : Ref sig .tc := ⟨.hbm, 318, rfl⟩
abbrev main_call18_v6 : Ref sig .tc := ⟨.hbm, 319, rfl⟩
abbrev main_call18_v7 : Ref sig .tc := ⟨.hbm, 320, rfl⟩
abbrev main_call18_v8 : Ref sig .tc := ⟨.hbm, 321, rfl⟩
abbrev main_call18_v9 : Ref sig .tc := ⟨.hbm, 322, rfl⟩
abbrev main_call18_v10 : Ref sig .tc := ⟨.hbm, 323, rfl⟩
abbrev main_call18_v11 : Ref sig .tc := ⟨.hbm, 324, rfl⟩
abbrev main_call18_c_3 : Ref sig .tc := ⟨.hbm, 325, rfl⟩
abbrev main_call18_v12 : Ref sig .tc := ⟨.hbm, 326, rfl⟩
abbrev main_call18_v13 : Ref sig .tc := ⟨.hbm, 327, rfl⟩
abbrev main_call18_v14 : Ref sig .tc := ⟨.hbm, 328, rfl⟩
abbrev main_call18_cst : Ref sig .tc := ⟨.hbm, 329, rfl⟩
abbrev main_call18_v15 : Ref sig .tc := ⟨.hbm, 330, rfl⟩
abbrev main_v115 : Ref sig .tc := ⟨.hbm, 331, rfl⟩
abbrev main_v116 : Ref sig .tc := ⟨.hbm, 332, rfl⟩
abbrev main_v117 : Ref sig .tc := ⟨.hbm, 333, rfl⟩
abbrev main_v118 : Ref sig .tc := ⟨.hbm, 334, rfl⟩
abbrev main_v119 : Ref sig .tc := ⟨.hbm, 335, rfl⟩
abbrev main_cst_25 : Ref sig .tc := ⟨.hbm, 336, rfl⟩
abbrev main_v120 : Ref sig .tc := ⟨.hbm, 337, rfl⟩
abbrev main_cst_26 : Ref sig .tc := ⟨.hbm, 338, rfl⟩
abbrev main_v121 : Ref sig .tc := ⟨.hbm, 339, rfl⟩
abbrev main_cst_27 : Ref sig .tc := ⟨.hbm, 340, rfl⟩
abbrev main_v122 : Ref sig .tc := ⟨.hbm, 341, rfl⟩
abbrev main_v123 : Ref sig .tc := ⟨.hbm, 342, rfl⟩
abbrev main_v124 : Ref sig .tc := ⟨.hbm, 343, rfl⟩
abbrev main_v125 : Ref sig .tc := ⟨.hbm, 344, rfl⟩
abbrev main_call19_v0 : Ref sig .tc := ⟨.hbm, 345, rfl⟩
abbrev main_call19_cst : Ref sig .tc := ⟨.hbm, 346, rfl⟩
abbrev main_call19_v1 : Ref sig .tc := ⟨.hbm, 347, rfl⟩
abbrev main_call19_v2 : Ref sig .tc := ⟨.hbm, 348, rfl⟩
abbrev main_v126 : Ref sig .tc := ⟨.hbm, 349, rfl⟩
abbrev main_cst_28 : Ref sig .tc := ⟨.hbm, 350, rfl⟩
abbrev main_v127 : Ref sig .tc := ⟨.hbm, 351, rfl⟩
abbrev main_v128 : Ref sig .tc := ⟨.hbm, 352, rfl⟩
abbrev main_v129 : Ref sig .tc := ⟨.hbm, 353, rfl⟩
abbrev main_v130 : Ref sig .tc := ⟨.hbm, 354, rfl⟩
abbrev main_v131 : Ref sig .tc := ⟨.hbm, 355, rfl⟩
abbrev main_call20_v0 : Ref sig .tc := ⟨.hbm, 356, rfl⟩
abbrev main_call20_cst : Ref sig .tc := ⟨.hbm, 357, rfl⟩
abbrev main_call20_c : Ref sig .tc := ⟨.hbm, 358, rfl⟩
abbrev main_call20_v1_0 : Ref sig .tc := ⟨.hbm, 359, rfl⟩
abbrev main_v132 : Ref sig .tc := ⟨.hbm, 360, rfl⟩
abbrev main_call21_c : Ref sig .tc := ⟨.hbm, 361, rfl⟩
abbrev main_call21_v0 : Ref sig .tc := ⟨.hbm, 362, rfl⟩
abbrev main_call21_v1 : Ref sig .tc := ⟨.hbm, 363, rfl⟩
abbrev main_call21_c_0 : Ref sig .tc := ⟨.hbm, 364, rfl⟩
abbrev main_call21_v2 : Ref sig .tc := ⟨.hbm, 365, rfl⟩
abbrev main_call21_v3 : Ref sig .tc := ⟨.hbm, 366, rfl⟩
abbrev main_call21_v4 : Ref sig .tc := ⟨.hbm, 367, rfl⟩
abbrev main_call21_v5 : Ref sig .tc := ⟨.hbm, 368, rfl⟩
abbrev main_call21_c_1 : Ref sig .tc := ⟨.hbm, 369, rfl⟩
abbrev main_call21_c_2 : Ref sig .tc := ⟨.hbm, 370, rfl⟩
abbrev main_call21_v6 : Ref sig .tc := ⟨.hbm, 371, rfl⟩
abbrev main_call21_v7 : Ref sig .tc := ⟨.hbm, 372, rfl⟩
abbrev main_call21_v8 : Ref sig .tc := ⟨.hbm, 373, rfl⟩
abbrev main_call21_v9 : Ref sig .tc := ⟨.hbm, 374, rfl⟩
abbrev main_call21_v10 : Ref sig .tc := ⟨.hbm, 375, rfl⟩
abbrev main_call21_v11 : Ref sig .tc := ⟨.hbm, 376, rfl⟩
abbrev main_call21_c_3 : Ref sig .tc := ⟨.hbm, 377, rfl⟩
abbrev main_call21_v12 : Ref sig .tc := ⟨.hbm, 378, rfl⟩
abbrev main_call21_v13 : Ref sig .tc := ⟨.hbm, 379, rfl⟩
abbrev main_call21_v14 : Ref sig .tc := ⟨.hbm, 380, rfl⟩
abbrev main_call21_cst : Ref sig .tc := ⟨.hbm, 381, rfl⟩
abbrev main_call21_v15 : Ref sig .tc := ⟨.hbm, 382, rfl⟩
abbrev main_v133 : Ref sig .tc := ⟨.hbm, 383, rfl⟩
abbrev main_v134 : Ref sig .tc := ⟨.hbm, 384, rfl⟩
abbrev main_v135 : Ref sig .tc := ⟨.hbm, 385, rfl⟩
abbrev main_v136 : Ref sig .tc := ⟨.hbm, 386, rfl⟩
abbrev main_v137 : Ref sig .tc := ⟨.hbm, 387, rfl⟩
abbrev main_cst_29 : Ref sig .tc := ⟨.hbm, 388, rfl⟩
abbrev main_v138 : Ref sig .tc := ⟨.hbm, 389, rfl⟩
abbrev main_cst_30 : Ref sig .tc := ⟨.hbm, 390, rfl⟩
abbrev main_v139 : Ref sig .tc := ⟨.hbm, 391, rfl⟩
abbrev main_cst_31 : Ref sig .tc := ⟨.hbm, 392, rfl⟩
abbrev main_v140 : Ref sig .tc := ⟨.hbm, 393, rfl⟩
abbrev main_v141 : Ref sig .tc := ⟨.hbm, 394, rfl⟩
abbrev main_v142 : Ref sig .tc := ⟨.hbm, 395, rfl⟩
abbrev main_v143 : Ref sig .tc := ⟨.hbm, 396, rfl⟩
abbrev main_call22_v0 : Ref sig .tc := ⟨.hbm, 397, rfl⟩
abbrev main_call22_cst : Ref sig .tc := ⟨.hbm, 398, rfl⟩
abbrev main_call22_v1 : Ref sig .tc := ⟨.hbm, 399, rfl⟩
abbrev main_call22_v2 : Ref sig .tc := ⟨.hbm, 400, rfl⟩
abbrev main_v144 : Ref sig .tc := ⟨.hbm, 401, rfl⟩
abbrev main_cst_32 : Ref sig .tc := ⟨.hbm, 402, rfl⟩
abbrev main_v145 : Ref sig .tc := ⟨.hbm, 403, rfl⟩
abbrev main_v146 : Ref sig .tc := ⟨.hbm, 404, rfl⟩
abbrev main_v147 : Ref sig .tc := ⟨.hbm, 405, rfl⟩
abbrev main_v148 : Ref sig .tc := ⟨.hbm, 406, rfl⟩
abbrev main_v149 : Ref sig .tc := ⟨.hbm, 407, rfl⟩
abbrev main_call23_v0 : Ref sig .tc := ⟨.hbm, 408, rfl⟩
abbrev main_call23_cst : Ref sig .tc := ⟨.hbm, 409, rfl⟩
abbrev main_call23_c : Ref sig .tc := ⟨.hbm, 410, rfl⟩
abbrev main_call23_v1_0 : Ref sig .tc := ⟨.hbm, 411, rfl⟩
abbrev main_v150 : Ref sig .tc := ⟨.hbm, 412, rfl⟩
abbrev main_call24_c : Ref sig .tc := ⟨.hbm, 413, rfl⟩
abbrev main_call24_v0 : Ref sig .tc := ⟨.hbm, 414, rfl⟩
abbrev main_call24_v1 : Ref sig .tc := ⟨.hbm, 415, rfl⟩
abbrev main_call24_c_0 : Ref sig .tc := ⟨.hbm, 416, rfl⟩
abbrev main_call24_v2 : Ref sig .tc := ⟨.hbm, 417, rfl⟩
abbrev main_call24_v3 : Ref sig .tc := ⟨.hbm, 418, rfl⟩
abbrev main_call24_v4 : Ref sig .tc := ⟨.hbm, 419, rfl⟩
abbrev main_call24_v5 : Ref sig .tc := ⟨.hbm, 420, rfl⟩
abbrev main_call24_c_1 : Ref sig .tc := ⟨.hbm, 421, rfl⟩
abbrev main_call24_c_2 : Ref sig .tc := ⟨.hbm, 422, rfl⟩
abbrev main_call24_v6 : Ref sig .tc := ⟨.hbm, 423, rfl⟩
abbrev main_call24_v7 : Ref sig .tc := ⟨.hbm, 424, rfl⟩
abbrev main_call24_v8 : Ref sig .tc := ⟨.hbm, 425, rfl⟩
abbrev main_call24_v9 : Ref sig .tc := ⟨.hbm, 426, rfl⟩
abbrev main_call24_v10 : Ref sig .tc := ⟨.hbm, 427, rfl⟩
abbrev main_call24_v11 : Ref sig .tc := ⟨.hbm, 428, rfl⟩
abbrev main_call24_c_3 : Ref sig .tc := ⟨.hbm, 429, rfl⟩
abbrev main_call24_v12 : Ref sig .tc := ⟨.hbm, 430, rfl⟩
abbrev main_call24_v13 : Ref sig .tc := ⟨.hbm, 431, rfl⟩
abbrev main_call24_v14 : Ref sig .tc := ⟨.hbm, 432, rfl⟩
abbrev main_call24_cst : Ref sig .tc := ⟨.hbm, 433, rfl⟩
abbrev main_call24_v15 : Ref sig .tc := ⟨.hbm, 434, rfl⟩
abbrev main_v151 : Ref sig .tc := ⟨.hbm, 435, rfl⟩
abbrev main_v152 : Ref sig .tc := ⟨.hbm, 436, rfl⟩
abbrev main_v153 : Ref sig .tc := ⟨.hbm, 437, rfl⟩
abbrev main_v154 : Ref sig .tc := ⟨.hbm, 438, rfl⟩
abbrev main_v155 : Ref sig .tc := ⟨.hbm, 439, rfl⟩
abbrev main_cst_33 : Ref sig .tc := ⟨.hbm, 440, rfl⟩
abbrev main_v156 : Ref sig .tc := ⟨.hbm, 441, rfl⟩
abbrev main_cst_34 : Ref sig .tc := ⟨.hbm, 442, rfl⟩
abbrev main_v157 : Ref sig .tc := ⟨.hbm, 443, rfl⟩
abbrev main_cst_35 : Ref sig .tc := ⟨.hbm, 444, rfl⟩
abbrev main_v158 : Ref sig .tc := ⟨.hbm, 445, rfl⟩
abbrev main_v159 : Ref sig .tc := ⟨.hbm, 446, rfl⟩
abbrev main_v160 : Ref sig .tc := ⟨.hbm, 447, rfl⟩
abbrev main_v161 : Ref sig .tc := ⟨.hbm, 448, rfl⟩
abbrev main_v162 : Ref sig .tc := ⟨.hbm, 449, rfl⟩
abbrev main_v163 : Ref sig .tc := ⟨.hbm, 450, rfl⟩
abbrev main_v164 : Ref sig .tc := ⟨.hbm, 451, rfl⟩
abbrev main_v165 : Ref sig .tc := ⟨.hbm, 452, rfl⟩
abbrev main_v166 : Ref sig .tc := ⟨.hbm, 453, rfl⟩
abbrev main_v167 : Ref sig .tc := ⟨.hbm, 454, rfl⟩
abbrev main_v168 : Ref sig .tc := ⟨.hbm, 455, rfl⟩
abbrev main_v169 : Ref sig .tc := ⟨.hbm, 456, rfl⟩
abbrev main_v170 : Ref sig .tc := ⟨.hbm, 457, rfl⟩
abbrev main_v171 : Ref sig .tc := ⟨.hbm, 458, rfl⟩
abbrev main_v172 : Ref sig .tc := ⟨.hbm, 459, rfl⟩
abbrev main_v173 : Ref sig .tc := ⟨.hbm, 460, rfl⟩
abbrev main_v174 : Ref sig .tc := ⟨.hbm, 461, rfl⟩
abbrev main_v175 : Ref sig .tc := ⟨.hbm, 462, rfl⟩
abbrev main_v176 : Ref sig .tc := ⟨.hbm, 463, rfl⟩
abbrev main_v177 : Ref sig .tc := ⟨.hbm, 464, rfl⟩
abbrev main_v178 : Ref sig .tc := ⟨.hbm, 465, rfl⟩
abbrev main_v179 : Ref sig .tc := ⟨.hbm, 466, rfl⟩
abbrev main_v180 : Ref sig .tc := ⟨.hbm, 467, rfl⟩
abbrev main_v181 : Ref sig .tc := ⟨.hbm, 468, rfl⟩
abbrev main_v182 : Ref sig .tc := ⟨.hbm, 469, rfl⟩
abbrev main_v183 : Ref sig .tc := ⟨.hbm, 470, rfl⟩
abbrev main_v184 : Ref sig .tc := ⟨.hbm, 471, rfl⟩
abbrev main_v185 : Ref sig .tc := ⟨.hbm, 472, rfl⟩

abbrev nD : Nat := 1
abbrev τ : Topo := Topo.v7x

variable {F : FTy → Type} [FloatOps F]
-- ==== Proof.RefOps.lean ====
/- The host operations of the reference, stage by stage, as lists. -/
module

public import Idealize.ShloMosaic.Lib.StableHlo.Run
public import proofs.«01_k».proof.Proof.Gen.ReferenceIdeal

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The operations of the norm of the codebook rows. -/
abbrev opsOf_fn_norm (arg0 : TRef sig ⟨S1024x256, .f32⟩) (φ : fn_norm.Bufs) : List (HloOp τ sig (Elt F)) :=
  [TRef.binary arg0 arg0 φ.v0 mulf,
   TRef.nullary φ.cst (constant S_ .f32 0x00000000#32),
   TRef.binary φ.v0 φ.cst φ.v1 (fun x v => Host.reduceAdd x v reducesTo_S1024x256_S1024_d1 h_S_),
   TRef.unary φ.v1 φ.v2 (broadcastInDim S1024x1 ![0] bcast_S1024_S1024x1_0),
   TRef.unary φ.v2 φ.v3 Host.sqrt]

/-- The operations of the norm of the residual rows. -/
abbrev opsOf_fn_norm_0 (arg0 : TRef sig ⟨S4x2048x256, .f32⟩) (φ : fn_norm_0.Bufs) : List (HloOp τ sig (Elt F)) :=
  [TRef.binary arg0 arg0 φ.v0 mulf,
   TRef.nullary φ.cst (constant S_ .f32 0x00000000#32),
   TRef.binary φ.v0 φ.cst φ.v1 (fun x v => Host.reduceAdd x v reducesTo_S4x2048x256_S4x2048_d2 h_S_),
   TRef.unary φ.v1 φ.v2 (broadcastInDim S4x2048x1 ![0, 1] bcast_S4x2048_S4x2048x1_0_1),
   TRef.unary φ.v2 φ.v3 Host.sqrt]

/-- The operations of the argmax over the codebook. -/
abbrev opsOf_fn_argmax (arg0 : TRef sig ⟨S4x2048x1024, .f32⟩) (φ : fn_argmax.Bufs) : List (HloOp τ sig (Elt F)) :=
  [TRef.nullary φ.v0 (iotaInDim S4x2048x1024 32 2),
   TRef.nullary φ.cst (constant S_ .f32 0xFF800000#32),
   TRef.nullary φ.c (constantI S_ 32 0#32),
   TRef.quaternary arg0 φ.v0 φ.cst φ.c φ.v1_0 (fun x y u v j => (Host.argReduce reducer_argmax_f32_i32 x y u v reducesTo_S4x2048x1024_S4x2048_d2 h_S_ j).1),
   TRef.quaternary arg0 φ.v0 φ.cst φ.c φ.v1_1 (fun x y u v j => (Host.argReduce reducer_argmax_f32_i32 x y u v reducesTo_S4x2048x1024_S4x2048_d2 h_S_ j).2)]

/-- The operation of the select that wraps a negative index. -/
abbrev opsOf_fn_where (arg0 : TRef sig ⟨S4x2048, .i1⟩) (arg1 : TRef sig ⟨S4x2048, .i32⟩) (arg2 : TRef sig ⟨S4x2048, .i32⟩) (φ : fn_where.Bufs) : List (HloOp τ sig (Elt F)) :=
  [TRef.ternary arg0 arg1 arg2 φ.v0 select]

/-- The operations of the lookup of codebook rows. -/
abbrev opsOf_fn_take (arg0 : TRef sig ⟨S1024x256, .f32⟩) (arg1 : TRef sig ⟨S4x2048, .i32⟩) (φ : fn_take.Bufs) : List (HloOp τ sig (Elt F)) :=
  [TRef.nullary φ.c (constantI S_ 32 0#32),
   TRef.unary φ.c φ.v0 (broadcastInDim S4x2048 ![] bcast_S_S4x2048),
   TRef.binary arg1 φ.v0 φ.v1 (cmpi .slt),
   TRef.nullary φ.c_0 (constantI S_ 32 1024#32),
   TRef.unary φ.c_0 φ.v2 (broadcastInDim S4x2048 ![] bcast_S_S4x2048),
   TRef.binary arg1 φ.v2 φ.v3 addi] ++
  opsOf_fn_where φ.v1 φ.v3 arg1 φ.call0 ++
  [TRef.unary φ.call0.v0 φ.v5 (broadcastInDim S4x2048x1 ![0, 1] bcast_S4x2048_S4x2048x1_0_1),
   TRef.nullary φ.c_1 (constantI S1 32 1023#32),
   TRef.nullary φ.c_2 (constantI S_ 32 0#32),
   TRef.unary φ.c_2 φ.v6 (broadcastInDim S4x2048x1 ![] bcast_S_S4x2048x1),
   TRef.binary φ.v5 φ.v6 φ.v7 (cmpi .sge),
   TRef.unary φ.c_1 φ.v8 (broadcastInDim S1x1x1 ![2] bcast_S1_S1x1x1_2),
   TRef.unary φ.v8 φ.v9 (broadcastInDim S4x2048x1 ![0, 1, 2] bcast_S1x1x1_S4x2048x1_0_1_2),
   TRef.binary φ.v5 φ.v9 φ.v10 (cmpi .sle),
   TRef.binary φ.v7 φ.v10 φ.v11 andi,
   TRef.nullary φ.c_3 (constantI S_ 1 1#1),
   TRef.binary φ.v11 φ.c_3 φ.v12 (fun x v => Host.reduce IntOp.andi x v reducesTo_S4x2048x1_S4x2048_d2 h_S_),
   TRef.binary arg0 φ.v5 φ.v13 (fun x i => Host.gather gather_S1024x256_S4x2048x1_S4x2048x256_2_0_n_n_0_2_1256 x i),
   TRef.unary φ.v12 φ.v14 (broadcastInDim S4x2048x256 ![0, 1] bcast_S4x2048_S4x2048x256_0_1),
   TRef.nullary φ.cst (constant S_ .f32 0x7FC00000#32),
   TRef.unary φ.cst φ.v15 (broadcastInDim S4x2048x256 ![] bcast_S_S4x2048x256),
   TRef.ternary φ.v14 φ.v13 φ.v15 φ.v16 select]

/-- The encoder, the normalised codebook and the orthogonality loss. -/
abbrev ops_pre : List (HloOp τ sig (Elt F)) :=
  [binary main_arg0 main_arg1 main_v0 ((fun l r => Host.dotGeneral dot_S4x64x2048_S256x64_S4x2048x256_1_1_02_0_n_n none l r) : (⟨S4x64x2048, .f32⟩ : BufTy).Contents (Elt F) → (⟨S256x64, .f32⟩ : BufTy).Contents (Elt F) → (⟨S4x2048x256, .f32⟩ : BufTy).Contents (Elt F)),
   unary main_v0 main_v1 ((transpose S4x256x2048 [0, 2, 1] · transposes_S4x2048x256_S4x256x2048_0_2_1) : (⟨S4x2048x256, .f32⟩ : BufTy).Contents (Elt F) → (⟨S4x256x2048, .f32⟩ : BufTy).Contents (Elt F)),
   unary main_arg2 main_v2 (broadcastInDim S1x256x1 ![1] bcast_S256_S1x256x1_1 : (⟨S256, .f32⟩ : BufTy).Contents (Elt F) → (⟨S1x256x1, .f32⟩ : BufTy).Contents (Elt F)),
   unary main_v2 main_v3 (broadcastInDim S4x256x2048 ![0, 1, 2] bcast_S1x256x1_S4x256x2048_0_1_2 : (⟨S1x256x1, .f32⟩ : BufTy).Contents (Elt F) → (⟨S4x256x2048, .f32⟩ : BufTy).Contents (Elt F)),
   binary main_v1 main_v3 main_v4 (addf : (⟨S4x256x2048, .f32⟩ : BufTy).Contents (Elt F) → (⟨S4x256x2048, .f32⟩ : BufTy).Contents (Elt F) → (⟨S4x256x2048, .f32⟩ : BufTy).Contents (Elt F)),
   unary main_v4 main_v5 ((transpose S4x2048x256 [0, 2, 1] · transposes_S4x256x2048_S4x2048x256_0_2_1) : (⟨S4x256x2048, .f32⟩ : BufTy).Contents (Elt F) → (⟨S4x2048x256, .f32⟩ : BufTy).Contents (Elt F))] ++
  opsOf_fn_norm (.of main_arg5) main_call0 ++
  [nullary main_cst (constant S_ .f32 0x2B8CBCCC#32),
   unary main_cst main_v7 (broadcastInDim S1024x1 ![] bcast_S_S1024x1 : (⟨S_, .f32⟩ : BufTy).Contents (Elt F) → (⟨S1024x1, .f32⟩ : BufTy).Contents (Elt F)),
   binary main_v6 main_v7 main_v8 (addf : (⟨S1024x1, .f32⟩ : BufTy).Contents (Elt F) → (⟨S1024x1, .f32⟩ : BufTy).Contents (Elt F) → (⟨S1024x1, .f32⟩ : BufTy).Contents (Elt F)),
   unary main_v8 main_v9 (broadcastInDim S1024x256 ![0, 1] bcast_S1024x1_S1024x256_0_1 : (⟨S1024x1, .f32⟩ : BufTy).Contents (Elt F) → (⟨S1024x256, .f32⟩ : BufTy).Contents (Elt F)),
   binary main_arg5 main_v9 main_v10 (Host.divf : (⟨S1024x256, .f32⟩ : BufTy).Contents (Elt F) → (⟨S1024x256, .f32⟩ : BufTy).Contents (Elt F) → (⟨S1024x256, .f32⟩ : BufTy).Contents (Elt F)),
   unary main_v10 main_v11 ((transpose S256x1024 [1, 0] · transposes_S1024x256_S256x1024_1_0) : (⟨S1024x256, .f32⟩ : BufTy).Contents (Elt F) → (⟨S256x1024, .f32⟩ : BufTy).Contents (Elt F)),
   binary main_v10 main_v11 main_v12 ((fun l r => Host.dotGeneral dot_S1024x256_S256x1024_S1024x1024_1_0_0_1_n_n none l r) : (⟨S1024x256, .f32⟩ : BufTy).Contents (Elt F) → (⟨S256x1024, .f32⟩ : BufTy).Contents (Elt F) → (⟨S1024x1024, .f32⟩ : BufTy).Contents (Elt F)),
   binary main_v12 main_v12 main_v13 (mulf : (⟨S1024x1024, .f32⟩ : BufTy).Contents (Elt F) → (⟨S1024x1024, .f32⟩ : BufTy).Contents (Elt F) → (⟨S1024x1024, .f32⟩ : BufTy).Contents (Elt F)),
   nullary main_cst_0 (constant S_ .f32 0x00000000#32),
   binary main_v13 main_cst_0 main_v14 ((fun x v => Host.reduceAdd x v reducesTo_S1024x1024_S_d0_1 h_S_) : (⟨S1024x1024, .f32⟩ : BufTy).Contents (Elt F) → (⟨S_, .f32⟩ : BufTy).Contents (Elt F) → (⟨S_, .f32⟩ : BufTy).Contents (Elt F)),
   nullary main_cst_1 (constant S_ .f32 0x49800000#32),
   binary main_v14 main_cst_1 main_v15 (Host.divf : (⟨S_, .f32⟩ : BufTy).Contents (Elt F) → (⟨S_, .f32⟩ : BufTy).Contents (Elt F) → (⟨S_, .f32⟩ : BufTy).Contents (Elt F)),
   nullary main_cst_2 (constant S_ .f32 0x3A800000#32),
   binary main_v15 main_cst_2 main_v16 (subf : (⟨S_, .f32⟩ : BufTy).Contents (Elt F) → (⟨S_, .f32⟩ : BufTy).Contents (Elt F) → (⟨S_, .f32⟩ : BufTy).Contents (Elt F)),
   nullary main_cst_3 (constant S_ .f32 0x00000000#32),
   unary main_cst_3 main_v17 (broadcastInDim S4x2048x256 ![] bcast_S_S4x2048x256 : (⟨S_, .f32⟩ : BufTy).Contents (Elt F) → (⟨S4x2048x256, .f32⟩ : BufTy).Contents (Elt F))]

/-- Step 0: the similarities and their argmax. -/
abbrev ops_find0 : List (HloOp τ sig (Elt F)) :=
  opsOf_fn_norm_0 (.of main_v5) main_call1 ++
  [nullary main_cst_4 (constant S_ .f32 0x2B8CBCCC#32),
   unary main_cst_4 main_v19 (broadcastInDim S4x2048x1 ![] bcast_S_S4x2048x1 : (⟨S_, .f32⟩ : BufTy).Contents (Elt F) → (⟨S4x2048x1, .f32⟩ : BufTy).Contents (Elt F)),
   binary main_v18 main_v19 main_v20 (addf : (⟨S4x2048x1, .f32⟩ : BufTy).Contents (Elt F) → (⟨S4x2048x1, .f32⟩ : BufTy).Contents (Elt F) → (⟨S4x2048x1, .f32⟩ : BufTy).Contents (Elt F)),
   unary main_v20 main_v21 (broadcastInDim S4x2048x256 ![0, 1, 2] bcast_S4x2048x1_S4x2048x256_0_1_2 : (⟨S4x2048x1, .f32⟩ : BufTy).Contents (Elt F) → (⟨S4x2048x256, .f32⟩ : BufTy).Contents (Elt F)),
   binary main_v5 main_v21 main_v22 (Host.divf : (⟨S4x2048x256, .f32⟩ : BufTy).Contents (Elt F) → (⟨S4x2048x256, .f32⟩ : BufTy).Contents (Elt F) → (⟨S4x2048x256, .f32⟩ : BufTy).Contents (Elt F)),
   binary main_v22 main_v10 main_v23 ((fun l r => Host.dotGeneral dot_S4x2048x256_S1024x256_S4x2048x1024_2_1_01_0_n_n none l r) : (⟨S4x2048x256, .f32⟩ : BufTy).Contents (Elt F) → (⟨S1024x256, .f32⟩ : BufTy).Contents (Elt F) → (⟨S4x2048x1024, .f32⟩ : BufTy).Contents (Elt F))] ++
  opsOf_fn_argmax (.of main_v23) main_call2

/-- Step 0: the lookup. -/
abbrev ops_take0 : List (HloOp τ sig (Elt F)) :=
  opsOf_fn_take (.of main_v10) (.of main_v24) main_call3

/-- Step 0: the loss, the running total and the next residual. -/
abbrev ops_acc0 : List (HloOp τ sig (Elt F)) :=
  [binary main_v25 main_v5 main_v26 (subf : (⟨S4x2048x256, .f32⟩ : BufTy).Contents (Elt F) → (⟨S4x2048x256, .f32⟩ : BufTy).Contents (Elt F) → (⟨S4x2048x256, .f32⟩ : BufTy).Contents (Elt F)),
   binary main_v5 main_v26 main_v27 (addf : (⟨S4x2048x256, .f32⟩ : BufTy).Contents (Elt F) → (⟨S4x2048x256, .f32⟩ : BufTy).Contents (Elt F) → (⟨S4x2048x256, .f32⟩ : BufTy).Contents (Elt F)),
   binary main_v25 main_v5 main_v28 (subf : (⟨S4x2048x256, .f32⟩ : BufTy).Contents (Elt F) → (⟨S4x2048x256, .f32⟩ : BufTy).Contents (Elt F) → (⟨S4x2048x256, .f32⟩ : BufTy).Contents (Elt F)),
   binary main_v28 main_v28 main_v29 (mulf : (⟨S4x2048x256, .f32⟩ : BufTy).Contents (Elt F) → (⟨S4x2048x256, .f32⟩ : BufTy).Contents (Elt F) → (⟨S4x2048x256, .f32⟩ : BufTy).Contents (Elt F)),
   nullary main_cst_5 (constant S_ .f32 0x00000000#32),
   binary main_v29 main_cst_5 main_v30 ((fun x v => Host.reduceAdd x v reducesTo_S4x2048x256_S_d0_1_2 h_S_) : (⟨S4x2048x256, .f32⟩ : BufTy).Contents (Elt F) → (⟨S_, .f32⟩ : BufTy).Contents (Elt F) → (⟨S_, .f32⟩ : BufTy).Contents (Elt F)),
   nullary main_cst_6 (constant S_ .f32 0x4A000000#32),
   binary main_v30 main_cst_6 main_v31 (Host.divf : (⟨S_, .f32⟩ : BufTy).Contents (Elt F) → (⟨S_, .f32⟩ : BufTy).Contents (Elt F) → (⟨S_, .f32⟩ : BufTy).Contents (Elt F)),
   nullary main_cst_7 (constant S_ .f32 0x41200000#32),
   binary main_cst_7 main_v16 main_v32 (mulf : (⟨S_, .f32⟩ : BufTy).Contents (Elt F) → (⟨S_, .f32⟩ : BufTy).Contents (Elt F) → (⟨S_, .f32⟩ : BufTy).Contents (Elt F)),
   binary main_v31 main_v32 main_v33 (addf : (⟨S_, .f32⟩ : BufTy).Contents (Elt F) → (⟨S_, .f32⟩ : BufTy).Contents (Elt F) → (⟨S_, .f32⟩ : BufTy).Contents (Elt F)),
   binary main_v17 main_v27 main_v34 (addf : (⟨S4x2048x256, .f32⟩ : BufTy).Contents (Elt F) → (⟨S4x2048x256, .f32⟩ : BufTy).Contents (Elt F) → (⟨S4x2048x256, .f32⟩ : BufTy).Contents (Elt F)),
   binary main_v5 main_v25 main_v35 (subf : (⟨S4x2048x256, .f32⟩ : BufTy).Contents (Elt F) → (⟨S4x2048x256, .f32⟩ : BufTy).Contents (Elt F) → (⟨S4x2048x256, .f32⟩ : BufTy).Contents (Elt F))]

/-- Step 1: the similarities and their argmax. -/
abbrev ops_find1 : List (HloOp τ sig (Elt F)) :=
  opsOf_fn_norm_0 (.of main_v35) main_call4 ++
  [nullary main_cst_8 (constant S_ .f32 0x2B8CBCCC#32),
   unary main_cst_8 main_v37 (broadcastInDim S4x2048x1 ![] bcast_S_S4x2048x1 : (⟨S_, .f32⟩ : BufTy).Contents (Elt F) → (⟨S4x2048x1, .f32⟩ : BufTy).Contents (Elt F)),
   binary main_v36 main_v37 main_v38 (addf : (⟨S4x2048x1, .f32⟩ : BufTy).Contents (Elt F) → (⟨S4x2048x1, .f32⟩ : BufTy).Contents (Elt F) → (⟨S4x2048x1, .f32⟩ : BufTy).Contents (Elt F)),
   unary main_v38 main_v39 (broadcastInDim S4x2048x256 ![0, 1, 2] bcast_S4x2048x1_S4x2048x256_0_1_2 : (⟨S4x2048x1, .f32⟩ : BufTy).Contents (Elt F) → (⟨S4x2048x256, .f32⟩ : BufTy).Contents (Elt F)),
   binary main_v35 main_v39 main_v40 (Host.divf : (⟨S4x2048x256, .f32⟩ : BufTy).Contents (Elt F) → (⟨S4x2048x256, .f32⟩ : BufTy).Contents (Elt F) → (⟨S4x2048x256, .f32⟩ : BufTy).Contents (Elt F)),
   binary main_v40 main_v10 main_v41 ((fun l r => Host.dotGeneral dot_S4x2048x256_S1024x256_S4x2048x1024_2_1_01_0_n_n none l r) : (⟨S4x2048x256, .f32⟩ : BufTy).Contents (Elt F) → (⟨S1024x256, .f32⟩ : BufTy).Contents (Elt F) → (⟨S4x2048x1024, .f32⟩ : BufTy).Contents (Elt F))] ++
  opsOf_fn_argmax (.of main_v41) main_call5

/-- Step 1: the lookup. -/
abbrev ops_take1 : List (HloOp τ sig (Elt F)) :=
  opsOf_fn_take (.of main_v10) (.of main_v42) main_call6

/-- Step 1: the loss, the running total and the next residual. -/
abbrev ops_acc1 : List (HloOp τ sig (Elt F)) :=
  [binary main_v43 main_v35 main_v44 (subf : (⟨S4x2048x256, .f32⟩ : BufTy).Contents (Elt F) → (⟨S4x2048x256, .f32⟩ : BufTy).Contents (Elt F) → (⟨S4x2048x256, .f32⟩ : BufTy).Contents (Elt F)),
   binary main_v35 main_v44 main_v45 (addf : (⟨S4x2048x256, .f32⟩ : BufTy).Contents (Elt F) → (⟨S4x2048x256, .f32⟩ : BufTy).Contents (Elt F) → (⟨S4x2048x256, .f32⟩ : BufTy).Contents (Elt F)),
   binary main_v43 main_v35 main_v46 (subf : (⟨S4x2048x256, .f32⟩ : BufTy).Contents (Elt F) → (⟨S4x2048x256, .f32⟩ : BufTy).Contents (Elt F) → (⟨S4x2048x256, .f32⟩ : BufTy).Contents (Elt F)),
   binary main_v46 main_v46 main_v47 (mulf : (⟨S4x2048x256, .f32⟩ : BufTy).Contents (Elt F) → (⟨S4x2048x256, .f32⟩ : BufTy).Contents (Elt F) → (⟨S4x2048x256, .f32⟩ : BufTy).Contents (Elt F)),
   nullary main_cst_9 (constant S_ .f32 0x00000000#32),
   binary main_v47 main_cst_9 main_v48 ((fun x v => Host.reduceAdd x v reducesTo_S4x2048x256_S_d0_1_2 h_S_) : (⟨S4x2048x256, .f32⟩ : BufTy).Contents (Elt F) → (⟨S_, .f32⟩ : BufTy).Contents (Elt F) → (⟨S_, .f32⟩ : BufTy).Contents (Elt F)),
   nullary main_cst_10 (constant S_ .f32 0x4A000000#32),
   binary main_v48 main_cst_10 main_v49 (Host.divf : (⟨S_, .f32⟩ : BufTy).Contents (Elt F) → (⟨S_, .f32⟩ : BufTy).Contents (Elt F) → (⟨S_, .f32⟩ : BufTy).Contents (Elt F)),
   nullary main_cst_11 (constant S_ .f32 0x41200000#32),
   binary main_cst_11 main_v16 main_v50 (mulf : (⟨S_, .f32⟩ : BufTy).Contents (Elt F) → (⟨S_, .f32⟩ : BufTy).Contents (Elt F) → (⟨S_, .f32⟩ : BufTy).Contents (Elt F)),
   binary main_v49 main_v50 main_v51 (addf : (⟨S_, .f32⟩ : BufTy).Contents (Elt F) → (⟨S_, .f32⟩ : BufTy).Contents (Elt F) → (⟨S_, .f32⟩ : BufTy).Contents (Elt F)),
   binary main_v34 main_v45 main_v52 (addf : (⟨S4x2048x256, .f32⟩ : BufTy).Contents (Elt F) → (⟨S4x2048x256, .f32⟩ : BufTy).Contents (Elt F) → (⟨S4x2048x256, .f32⟩ : BufTy).Contents (Elt F)),
   binary main_v35 main_v43 main_v53 (subf : (⟨S4x2048x256, .f32⟩ : BufTy).Contents (Elt F) → (⟨S4x2048x256, .f32⟩ : BufTy).Contents (Elt F) → (⟨S4x2048x256, .f32⟩ : BufTy).Contents (Elt F))]

/-- Step 2: the similarities and their argmax. -/
abbrev ops_find2 : List (HloOp τ sig (Elt F)) :=
  opsOf_fn_norm_0 (.of main_v53) main_call7 ++
  [nullary main_cst_12 (constant S_ .f32 0x2B8CBCCC#32),
   unary main_cst_12 main_v55 (broadcastInDim S4x2048x1 ![] bcast_S_S4x2048x1 : (⟨S_, .f32⟩ : BufTy).Contents (Elt F) → (⟨S4x2048x1, .f32⟩ : BufTy).Contents (Elt F)),
   binary main_v54 main_v55 main_v56 (addf : (⟨S4x2048x1, .f32⟩ : BufTy).Contents (Elt F) → (⟨S4x2048x1, .f32⟩ : BufTy).Contents (Elt F) → (⟨S4x2048x1, .f32⟩ : BufTy).Contents (Elt F)),
   unary main_v56 main_v57 (broadcastInDim S4x2048x256 ![0, 1, 2] bcast_S4x2048x1_S4x2048x256_0_1_2 : (⟨S4x2048x1, .f32⟩ : BufTy).Contents (Elt F) → (⟨S4x2048x256, .f32⟩ : BufTy).Contents (Elt F)),
   binary main_v53 main_v57 main_v58 (Host.divf : (⟨S4x2048x256, .f32⟩ : BufTy).Contents (Elt F) → (⟨S4x2048x256, .f32⟩ : BufTy).Contents (Elt F) → (⟨S4x2048x256, .f32⟩ : BufTy).Contents (Elt F)),
   binary main_v58 main_v10 main_v59 ((fun l r => Host.dotGeneral dot_S4x2048x256_S1024x256_S4x2048x1024_2_1_01_0_n_n none l r) : (⟨S4x2048x256, .f32⟩ : BufTy).Contents (Elt F) → (⟨S1024x256, .f32⟩ : BufTy).Contents (Elt F) → (⟨S4x2048x1024, .f32⟩ : BufTy).Contents (Elt F))] ++
  opsOf_fn_argmax (.of main_v59) main_call8

/-- Step 2: the lookup. -/
abbrev ops_take2 : List (HloOp τ sig (Elt F)) :=
  opsOf_fn_take (.of main_v10) (.of main_v60) main_call9

/-- Step 2: the loss, the running total and the next residual. -/
abbrev ops_acc2 : List (HloOp τ sig (Elt F)) :=
  [binary main_v61 main_v53 main_v62 (subf : (⟨S4x2048x256, .f32⟩ : BufTy).Contents (Elt F) → (⟨S4x2048x256, .f32⟩ : BufTy).Contents (Elt F) → (⟨S4x2048x256, .f32⟩ : BufTy).Contents (Elt F)),
   binary main_v53 main_v62 main_v63 (addf : (⟨S4x2048x256, .f32⟩ : BufTy).Contents (Elt F) → (⟨S4x2048x256, .f32⟩ : BufTy).Contents (Elt F) → (⟨S4x2048x256, .f32⟩ : BufTy).Contents (Elt F)),
   binary main_v61 main_v53 main_v64 (subf : (⟨S4x2048x256, .f32⟩ : BufTy).Contents (Elt F) → (⟨S4x2048x256, .f32⟩ : BufTy).Contents (Elt F) → (⟨S4x2048x256, .f32⟩ : BufTy).Contents (Elt F)),
   binary main_v64 main_v64 main_v65 (mulf : (⟨S4x2048x256, .f32⟩ : BufTy).Contents (Elt F) → (⟨S4x2048x256, .f32⟩ : BufTy).Contents (Elt F) → (⟨S4x2048x256, .f32⟩ : BufTy).Contents (Elt F)),
   nullary main_cst_13 (constant S_ .f32 0x00000000#32),
   binary main_v65 main_cst_13 main_v66 ((fun x v => Host.reduceAdd x v reducesTo_S4x2048x256_S_d0_1_2 h_S_) : (⟨S4x2048x256, .f32⟩ : BufTy).Contents (Elt F) → (⟨S_, .f32⟩ : BufTy).Contents (Elt F) → (⟨S_, .f32⟩ : BufTy).Contents (Elt F)),
   nullary main_cst_14 (constant S_ .f32 0x4A000000#32),
   binary main_v66 main_cst_14 main_v67 (Host.divf : (⟨S_, .f32⟩ : BufTy).Contents (Elt F) → (⟨S_, .f32⟩ : BufTy).Contents (Elt F) → (⟨S_, .f32⟩ : BufTy).Contents (Elt F)),
   nullary main_cst_15 (constant S_ .f32 0x41200000#32),
   binary main_cst_15 main_v16 main_v68 (mulf : (⟨S_, .f32⟩ : BufTy).Contents (Elt F) → (⟨S_, .f32⟩ : BufTy).Contents (Elt F) → (⟨S_, .f32⟩ : BufTy).Contents (Elt F)),
   binary main_v67 main_v68 main_v69 (addf : (⟨S_, .f32⟩ : BufTy).Contents (Elt F) → (⟨S_, .f32⟩ : BufTy).Contents (Elt F) → (⟨S_, .f32⟩ : BufTy).Contents (Elt F)),
   binary main_v52 main_v63 main_v70 (addf : (⟨S4x2048x256, .f32⟩ : BufTy).Contents (Elt F) → (⟨S4x2048x256, .f32⟩ : BufTy).Contents (Elt F) → (⟨S4x2048x256, .f32⟩ : BufTy).Contents (Elt F)),
   binary main_v53 main_v61 main_v71 (subf : (⟨S4x2048x256, .f32⟩ : BufTy).Contents (Elt F) → (⟨S4x2048x256, .f32⟩ : BufTy).Contents (Elt F) → (⟨S4x2048x256, .f32⟩ : BufTy).Contents (Elt F))]

/-- Step 3: the similarities and their argmax. -/
abbrev ops_find3 : List (HloOp τ sig (Elt F)) :=
  opsOf_fn_norm_0 (.of main_v71) main_call10 ++
  [nullary main_cst_16 (constant S_ .f32 0x2B8CBCCC#32),
   unary main_cst_16 main_v73 (broadcastInDim S4x2048x1 ![] bcast_S_S4x2048x1 : (⟨S_, .f32⟩ : BufTy).Contents (Elt F) → (⟨S4x2048x1, .f32⟩ : BufTy).Contents (Elt F)),
   binary main_v72 main_v73 main_v74 (addf : (⟨S4x2048x1, .f32⟩ : BufTy).Contents (Elt F) → (⟨S4x2048x1, .f32⟩ : BufTy).Contents (Elt F) → (⟨S4x2048x1, .f32⟩ : BufTy).Contents (Elt F)),
   unary main_v74 main_v75 (broadcastInDim S4x2048x256 ![0, 1, 2] bcast_S4x2048x1_S4x2048x256_0_1_2 : (⟨S4x2048x1, .f32⟩ : BufTy).Contents (Elt F) → (⟨S4x2048x256, .f32⟩ : BufTy).Contents (Elt F)),
   binary main_v71 main_v75 main_v76 (Host.divf : (⟨S4x2048x256, .f32⟩ : BufTy).Contents (Elt F) → (⟨S4x2048x256, .f32⟩ : BufTy).Contents (Elt F) → (⟨S4x2048x256, .f32⟩ : BufTy).Contents (Elt F)),
   binary main_v76 main_v10 main_v77 ((fun l r => Host.dotGeneral dot_S4x2048x256_S1024x256_S4x2048x1024_2_1_01_0_n_n none l r) : (⟨S4x2048x256, .f32⟩ : BufTy).Contents (Elt F) → (⟨S1024x256, .f32⟩ : BufTy).Contents (Elt F) → (⟨S4x2048x1024, .f32⟩ : BufTy).Contents (Elt F))] ++
  opsOf_fn_argmax (.of main_v77) main_call11

/-- Step 3: the lookup. -/
abbrev ops_take3 : List (HloOp τ sig (Elt F)) :=
  opsOf_fn_take (.of main_v10) (.of main_v78) main_call12

/-- Step 3: the loss, the running total and the next residual. -/
abbrev ops_acc3 : List (HloOp τ sig (Elt F)) :=
  [binary main_v79 main_v71 main_v80 (subf : (⟨S4x2048x256, .f32⟩ : BufTy).Contents (Elt F) → (⟨S4x2048x256, .f32⟩ : BufTy).Contents (Elt F) → (⟨S4x2048x256, .f32⟩ : BufTy).Contents (Elt F)),
   binary main_v71 main_v80 main_v81 (addf : (⟨S4x2048x256, .f32⟩ : BufTy).Contents (Elt F) → (⟨S4x2048x256, .f32⟩ : BufTy).Contents (Elt F) → (⟨S4x2048x256, .f32⟩ : BufTy).Contents (Elt F)),
   binary main_v79 main_v71 main_v82 (subf : (⟨S4x2048x256, .f32⟩ : BufTy).Contents (Elt F) → (⟨S4x2048x256, .f32⟩ : BufTy).Contents (Elt F) → (⟨S4x2048x256, .f32⟩ : BufTy).Contents (Elt F)),
   binary main_v82 main_v82 main_v83 (mulf : (⟨S4x2048x256, .f32⟩ : BufTy).Contents (Elt F) → (⟨S4x2048x256, .f32⟩ : BufTy).Contents (Elt F) → (⟨S4x2048x256, .f32⟩ : BufTy).Contents (Elt F)),
   nullary main_cst_17 (constant S_ .f32 0x00000000#32),
   binary main_v83 main_cst_17 main_v84 ((fun x v => Host.reduceAdd x v reducesTo_S4x2048x256_S_d0_1_2 h_S_) : (⟨S4x2048x256, .f32⟩ : BufTy).Contents (Elt F) → (⟨S_, .f32⟩ : BufTy).Contents (Elt F) → (⟨S_, .f32⟩ : BufTy).Contents (Elt F)),
   nullary main_cst_18 (constant S_ .f32 0x4A000000#32),
   binary main_v84 main_cst_18 main_v85 (Host.divf : (⟨S_, .f32⟩ : BufTy).Contents (Elt F) → (⟨S_, .f32⟩ : BufTy).Contents (Elt F) → (⟨S_, .f32⟩ : BufTy).Contents (Elt F)),
   nullary main_cst_19 (constant S_ .f32 0x41200000#32),
   binary main_cst_19 main_v16 main_v86 (mulf : (⟨S_, .f32⟩ : BufTy).Contents (Elt F) → (⟨S_, .f32⟩ : BufTy).Contents (Elt F) → (⟨S_, .f32⟩ : BufTy).Contents (Elt F)),
   binary main_v85 main_v86 main_v87 (addf : (⟨S_, .f32⟩ : BufTy).Contents (Elt F) → (⟨S_, .f32⟩ : BufTy).Contents (Elt F) → (⟨S_, .f32⟩ : BufTy).Contents (Elt F)),
   binary main_v70 main_v81 main_v88 (addf : (⟨S4x2048x256, .f32⟩ : BufTy).Contents (Elt F) → (⟨S4x2048x256, .f32⟩ : BufTy).Contents (Elt F) → (⟨S4x2048x256, .f32⟩ : BufTy).Contents (Elt F)),
   binary main_v71 main_v79 main_v89 (subf : (⟨S4x2048x256, .f32⟩ : BufTy).Contents (Elt F) → (⟨S4x2048x256, .f32⟩ : BufTy).Contents (Elt F) → (⟨S4x2048x256, .f32⟩ : BufTy).Contents (Elt F))]

/-- Step 4: the similarities and their argmax. -/
abbrev ops_find4 : List (HloOp τ sig (Elt F)) :=
  opsOf_fn_norm_0 (.of main_v89) main_call13 ++
  [nullary main_cst_20 (constant S_ .f32 0x2B8CBCCC#32),
   unary main_cst_20 main_v91 (broadcastInDim S4x2048x1 ![] bcast_S_S4x2048x1 : (⟨S_, .f32⟩ : BufTy).Contents (Elt F) → (⟨S4x2048x1, .f32⟩ : BufTy).Contents (Elt F)),
   binary main_v90 main_v91 main_v92 (addf : (⟨S4x2048x1, .f32⟩ : BufTy).Contents (Elt F) → (⟨S4x2048x1, .f32⟩ : BufTy).Contents (Elt F) → (⟨S4x2048x1, .f32⟩ : BufTy).Contents (Elt F)),
   unary main_v92 main_v93 (broadcastInDim S4x2048x256 ![0, 1, 2] bcast_S4x2048x1_S4x2048x256_0_1_2 : (⟨S4x2048x1, .f32⟩ : BufTy).Contents (Elt F) → (⟨S4x2048x256, .f32⟩ : BufTy).Contents (Elt F)),
   binary main_v89 main_v93 main_v94 (Host.divf : (⟨S4x2048x256, .f32⟩ : BufTy).Contents (Elt F) → (⟨S4x2048x256, .f32⟩ : BufTy).Contents (Elt F) → (⟨S4x2048x256, .f32⟩ : BufTy).Contents (Elt F)),
   binary main_v94 main_v10 main_v95 ((fun l r => Host.dotGeneral dot_S4x2048x256_S1024x256_S4x2048x1024_2_1_01_0_n_n none l r) : (⟨S4x2048x256, .f32⟩ : BufTy).Contents (Elt F) → (⟨S1024x256, .f32⟩ : BufTy).Contents (Elt F) → (⟨S4x2048x1024, .f32⟩ : BufTy).Contents (Elt F))] ++
  opsOf_fn_argmax (.of main_v95) main_call14

/-- Step 4: the lookup. -/
abbrev ops_take4 : List (HloOp τ sig (Elt F)) :=
  opsOf_fn_take (.of main_v10) (.of main_v96) main_call15

/-- Step 4: the loss, the running total and the next residual. -/
abbrev ops_acc4 : List (HloOp τ sig (Elt F)) :=
  [binary main_v97 main_v89 main_v98 (subf : (⟨S4x2048x256, .f32⟩ : BufTy).Contents (Elt F) → (⟨S4x2048x256, .f32⟩ : BufTy).Contents (Elt F) → (⟨S4x2048x256, .f32⟩ : BufTy).Contents (Elt F)),
   binary main_v89 main_v98 main_v99 (addf : (⟨S4x2048x256, .f32⟩ : BufTy).Contents (Elt F) → (⟨S4x2048x256, .f32⟩ : BufTy).Contents (Elt F) → (⟨S4x2048x256, .f32⟩ : BufTy).Contents (Elt F)),
   binary main_v97 main_v89 main_v100 (subf : (⟨S4x2048x256, .f32⟩ : BufTy).Contents (Elt F) → (⟨S4x2048x256, .f32⟩ : BufTy).Contents (Elt F) → (⟨S4x2048x256, .f32⟩ : BufTy).Contents (Elt F)),
   binary main_v100 main_v100 main_v101 (mulf : (⟨S4x2048x256, .f32⟩ : BufTy).Contents (Elt F) → (⟨S4x2048x256, .f32⟩ : BufTy).Contents (Elt F) → (⟨S4x2048x256, .f32⟩ : BufTy).Contents (Elt F)),
   nullary main_cst_21 (constant S_ .f32 0x00000000#32),
   binary main_v101 main_cst_21 main_v102 ((fun x v => Host.reduceAdd x v reducesTo_S4x2048x256_S_d0_1_2 h_S_) : (⟨S4x2048x256, .f32⟩ : BufTy).Contents (Elt F) → (⟨S_, .f32⟩ : BufTy).Contents (Elt F) → (⟨S_, .f32⟩ : BufTy).Contents (Elt F)),
   nullary main_cst_22 (constant S_ .f32 0x4A000000#32),
   binary main_v102 main_cst_22 main_v103 (Host.divf : (⟨S_, .f32⟩ : BufTy).Contents (Elt F) → (⟨S_, .f32⟩ : BufTy).Contents (Elt F) → (⟨S_, .f32⟩ : BufTy).Contents (Elt F)),
   nullary main_cst_23 (constant S_ .f32 0x41200000#32),
   binary main_cst_23 main_v16 main_v104 (mulf : (⟨S_, .f32⟩ : BufTy).Contents (Elt F) → (⟨S_, .f32⟩ : BufTy).Contents (Elt F) → (⟨S_, .f32⟩ : BufTy).Contents (Elt F)),
   binary main_v103 main_v104 main_v105 (addf : (⟨S_, .f32⟩ : BufTy).Contents (Elt F) → (⟨S_, .f32⟩ : BufTy).Contents (Elt F) → (⟨S_, .f32⟩ : BufTy).Contents (Elt F)),
   binary main_v88 main_v99 main_v106 (addf : (⟨S4x2048x256, .f32⟩ : BufTy).Contents (Elt F) → (⟨S4x2048x256, .f32⟩ : BufTy).Contents (Elt F) → (⟨S4x2048x256, .f32⟩ : BufTy).Contents (Elt F)),
   binary main_v89 main_v97 main_v107 (subf : (⟨S4x2048x256, .f32⟩ : BufTy).Contents (Elt F) → (⟨S4x2048x256, .f32⟩ : BufTy).Contents (Elt F) → (⟨S4x2048x256, .f32⟩ : BufTy).Contents (Elt F))]

/-- Step 5: the similarities and their argmax. -/
abbrev ops_find5 : List (HloOp τ sig (Elt F)) :=
  opsOf_fn_norm_0 (.of main_v107) main_call16 ++
  [nullary main_cst_24 (constant S_ .f32 0x2B8CBCCC#32),
   unary main_cst_24 main_v109 (broadcastInDim S4x2048x1 ![] bcast_S_S4x2048x1 : (⟨S_, .f32⟩ : BufTy).Contents (Elt F) → (⟨S4x2048x1, .f32⟩ : BufTy).Contents (Elt F)),
   binary main_v108 main_v109 main_v110 (addf : (⟨S4x2048x1, .f32⟩ : BufTy).Contents (Elt F) → (⟨S4x2048x1, .f32⟩ : BufTy).Contents (Elt F) → (⟨S4x2048x1, .f32⟩ : BufTy).Contents (Elt F)),
   unary main_v110 main_v111 (broadcastInDim S4x2048x256 ![0, 1, 2] bcast_S4x2048x1_S4x2048x256_0_1_2 : (⟨S4x2048x1, .f32⟩ : BufTy).Contents (Elt F) → (⟨S4x2048x256, .f32⟩ : BufTy).Contents (Elt F)),
   binary main_v107 main_v111 main_v112 (Host.divf : (⟨S4x2048x256, .f32⟩ : BufTy).Contents (Elt F) → (⟨S4x2048x256, .f32⟩ : BufTy).Contents (Elt F) → (⟨S4x2048x256, .f32⟩ : BufTy).Contents (Elt F)),
   binary main_v112 main_v10 main_v113 ((fun l r => Host.dotGeneral dot_S4x2048x256_S1024x256_S4x2048x1024_2_1_01_0_n_n none l r) : (⟨S4x2048x256, .f32⟩ : BufTy).Contents (Elt F) → (⟨S1024x256, .f32⟩ : BufTy).Contents (Elt F) → (⟨S4x2048x1024, .f32⟩ : BufTy).Contents (Elt F))] ++
  opsOf_fn_argmax (.of main_v113) main_call17

/-- Step 5: the lookup. -/
abbrev ops_take5 : List (HloOp τ sig (Elt F)) :=
  opsOf_fn_take (.of main_v10) (.of main_v114) main_call18

/-- Step 5: the loss, the running total and the next residual. -/
abbrev ops_acc5 : List (HloOp τ sig (Elt F)) :=
  [binary main_v115 main_v107 main_v116 (subf : (⟨S4x2048x256, .f32⟩ : BufTy).Contents (Elt F) → (⟨S4x2048x256, .f32⟩ : BufTy).Contents (Elt F) → (⟨S4x2048x256, .f32⟩ : BufTy).Contents (Elt F)),
   binary main_v107 main_v116 main_v117 (addf : (⟨S4x2048x256, .f32⟩ : BufTy).Contents (Elt F) → (⟨S4x2048x256, .f32⟩ : BufTy).Contents (Elt F) → (⟨S4x2048x256, .f32⟩ : BufTy).Contents (Elt F)),
   binary main_v115 main_v107 main_v118 (subf : (⟨S4x2048x256, .f32⟩ : BufTy).Contents (Elt F) → (⟨S4x2048x256, .f32⟩ : BufTy).Contents (Elt F) → (⟨S4x2048x256, .f32⟩ : BufTy).Contents (Elt F)),
   binary main_v118 main_v118 main_v119 (mulf : (⟨S4x2048x256, .f32⟩ : BufTy).Contents (Elt F) → (⟨S4x2048x256, .f32⟩ : BufTy).Contents (Elt F) → (⟨S4x2048x256, .f32⟩ : BufTy).Contents (Elt F)),
   nullary main_cst_25 (constant S_ .f32 0x00000000#32),
   binary main_v119 main_cst_25 main_v120 ((fun x v => Host.reduceAdd x v reducesTo_S4x2048x256_S_d0_1_2 h_S_) : (⟨S4x2048x256, .f32⟩ : BufTy).Contents (Elt F) → (⟨S_, .f32⟩ : BufTy).Contents (Elt F) → (⟨S_, .f32⟩ : BufTy).Contents (Elt F)),
   nullary main_cst_26 (constant S_ .f32 0x4A000000#32),
   binary main_v120 main_cst_26 main_v121 (Host.divf : (⟨S_, .f32⟩ : BufTy).Contents (Elt F) → (⟨S_, .f32⟩ : BufTy).Contents (Elt F) → (⟨S_, .f32⟩ : BufTy).Contents (Elt F)),
   nullary main_cst_27 (constant S_ .f32 0x41200000#32),
   binary main_cst_27 main_v16 main_v122 (mulf : (⟨S_, .f32⟩ : BufTy).Contents (Elt F) → (⟨S_, .f32⟩ : BufTy).Contents (Elt F) → (⟨S_, .f32⟩ : BufTy).Contents (Elt F)),
   binary main_v121 main_v122 main_v123 (addf : (⟨S_, .f32⟩ : BufTy).Contents (Elt F) → (⟨S_, .f32⟩ : BufTy).Contents (Elt F) → (⟨S_, .f32⟩ : BufTy).Contents (Elt F)),
   binary main_v106 main_v117 main_v124 (addf : (⟨S4x2048x256, .f32⟩ : BufTy).Contents (Elt F) → (⟨S4x2048x256, .f32⟩ : BufTy).Contents (Elt F) → (⟨S4x2048x256, .f32⟩ : BufTy).Contents (Elt F)),
   binary main_v107 main_v115 main_v125 (subf : (⟨S4x2048x256, .f32⟩ : BufTy).Contents (Elt F) → (⟨S4x2048x256, .f32⟩ : BufTy).Contents (Elt F) → (⟨S4x2048x256, .f32⟩ : BufTy).Contents (Elt F))]

/-- Step 6: the similarities and their argmax. -/
abbrev ops_find6 : List (HloOp τ sig (Elt F)) :=
  opsOf_fn_norm_0 (.of main_v125) main_call19 ++
  [nullary main_cst_28 (constant S_ .f32 0x2B8CBCCC#32),
   unary main_cst_28 main_v127 (broadcastInDim S4x2048x1 ![] bcast_S_S4x2048x1 : (⟨S_, .f32⟩ : BufTy).Contents (Elt F) → (⟨S4x2048x1, .f32⟩ : BufTy).Contents (Elt F)),
   binary main_v126 main_v127 main_v128 (addf : (⟨S4x2048x1, .f32⟩ : BufTy).Contents (Elt F) → (⟨S4x2048x1, .f32⟩ : BufTy).Contents (Elt F) → (⟨S4x2048x1, .f32⟩ : BufTy).Contents (Elt F)),
   unary main_v128 main_v129 (broadcastInDim S4x2048x256 ![0, 1, 2] bcast_S4x2048x1_S4x2048x256_0_1_2 : (⟨S4x2048x1, .f32⟩ : BufTy).Contents (Elt F) → (⟨S4x2048x256, .f32⟩ : BufTy).Contents (Elt F)),
   binary main_v125 main_v129 main_v130 (Host.divf : (⟨S4x2048x256, .f32⟩ : BufTy).Contents (Elt F) → (⟨S4x2048x256, .f32⟩ : BufTy).Contents (Elt F) → (⟨S4x2048x256, .f32⟩ : BufTy).Contents (Elt F)),
   binary main_v130 main_v10 main_v131 ((fun l r => Host.dotGeneral dot_S4x2048x256_S1024x256_S4x2048x1024_2_1_01_0_n_n none l r) : (⟨S4x2048x256, .f32⟩ : BufTy).Contents (Elt F) → (⟨S1024x256, .f32⟩ : BufTy).Contents (Elt F) → (⟨S4x2048x1024, .f32⟩ : BufTy).Contents (Elt F))] ++
  opsOf_fn_argmax (.of main_v131) main_call20

/-- Step 6: the lookup. -/
abbrev ops_take6 : List (HloOp τ sig (Elt F)) :=
  opsOf_fn_take (.of main_v10) (.of main_v132) main_call21

/-- Step 6: the loss, the running total and the next residual. -/
abbrev ops_acc6 : List (HloOp τ sig (Elt F)) :=
  [binary main_v133 main_v125 main_v134 (subf : (⟨S4x2048x256, .f32⟩ : BufTy).Contents (Elt F) → (⟨S4x2048x256, .f32⟩ : BufTy).Contents (Elt F) → (⟨S4x2048x256, .f32⟩ : BufTy).Contents (Elt F)),
   binary main_v125 main_v134 main_v135 (addf : (⟨S4x2048x256, .f32⟩ : BufTy).Contents (Elt F) → (⟨S4x2048x256, .f32⟩ : BufTy).Contents (Elt F) → (⟨S4x2048x256, .f32⟩ : BufTy).Contents (Elt F)),
   binary main_v133 main_v125 main_v136 (subf : (⟨S4x2048x256, .f32⟩ : BufTy).Contents (Elt F) → (⟨S4x2048x256, .f32⟩ : BufTy).Contents (Elt F) → (⟨S4x2048x256, .f32⟩ : BufTy).Contents (Elt F)),
   binary main_v136 main_v136 main_v137 (mulf : (⟨S4x2048x256, .f32⟩ : BufTy).Contents (Elt F) → (⟨S4x2048x256, .f32⟩ : BufTy).Contents (Elt F) → (⟨S4x2048x256, .f32⟩ : BufTy).Contents (Elt F)),
   nullary main_cst_29 (constant S_ .f32 0x00000000#32),
   binary main_v137 main_cst_29 main_v138 ((fun x v => Host.reduceAdd x v reducesTo_S4x2048x256_S_d0_1_2 h_S_) : (⟨S4x2048x256, .f32⟩ : BufTy).Contents (Elt F) → (⟨S_, .f32⟩ : BufTy).Contents (Elt F) → (⟨S_, .f32⟩ : BufTy).Contents (Elt F)),
   nullary main_cst_30 (constant S_ .f32 0x4A000000#32),
   binary main_v138 main_cst_30 main_v139 (Host.divf : (⟨S_, .f32⟩ : BufTy).Contents (Elt F) → (⟨S_, .f32⟩ : BufTy).Contents (Elt F) → (⟨S_, .f32⟩ : BufTy).Contents (Elt F)),
   nullary main_cst_31 (constant S_ .f32 0x41200000#32),
   binary main_cst_31 main_v16 main_v140 (mulf : (⟨S_, .f32⟩ : BufTy).Contents (Elt F) → (⟨S_, .f32⟩ : BufTy).Contents (Elt F) → (⟨S_, .f32⟩ : BufTy).Contents (Elt F)),
   binary main_v139 main_v140 main_v141 (addf : (⟨S_, .f32⟩ : BufTy).Contents (Elt F) → (⟨S_, .f32⟩ : BufTy).Contents (Elt F) → (⟨S_, .f32⟩ : BufTy).Contents (Elt F)),
   binary main_v124 main_v135 main_v142 (addf : (⟨S4x2048x256, .f32⟩ : BufTy).Contents (Elt F) → (⟨S4x2048x256, .f32⟩ : BufTy).Contents (Elt F) → (⟨S4x2048x256, .f32⟩ : BufTy).Contents (Elt F)),
   binary main_v125 main_v133 main_v143 (subf : (⟨S4x2048x256, .f32⟩ : BufTy).Contents (Elt F) → (⟨S4x2048x256, .f32⟩ : BufTy).Contents (Elt F) → (⟨S4x2048x256, .f32⟩ : BufTy).Contents (Elt F))]

/-- Step 7: the similarities and their argmax. -/
abbrev ops_find7 : List (HloOp τ sig (Elt F)) :=
  opsOf_fn_norm_0 (.of main_v143) main_call22 ++
  [nullary main_cst_32 (constant S_ .f32 0x2B8CBCCC#32),
   unary main_cst_32 main_v145 (broadcastInDim S4x2048x1 ![] bcast_S_S4x2048x1 : (⟨S_, .f32⟩ : BufTy).Contents (Elt F) → (⟨S4x2048x1, .f32⟩ : BufTy).Contents (Elt F)),
   binary main_v144 main_v145 main_v146 (addf : (⟨S4x2048x1, .f32⟩ : BufTy).Contents (Elt F) → (⟨S4x2048x1, .f32⟩ : BufTy).Contents (Elt F) → (⟨S4x2048x1, .f32⟩ : BufTy).Contents (Elt F)),
   unary main_v146 main_v147 (broadcastInDim S4x2048x256 ![0, 1, 2] bcast_S4x2048x1_S4x2048x256_0_1_2 : (⟨S4x2048x1, .f32⟩ : BufTy).Contents (Elt F) → (⟨S4x2048x256, .f32⟩ : BufTy).Contents (Elt F)),
   binary main_v143 main_v147 main_v148 (Host.divf : (⟨S4x2048x256, .f32⟩ : BufTy).Contents (Elt F) → (⟨S4x2048x256, .f32⟩ : BufTy).Contents (Elt F) → (⟨S4x2048x256, .f32⟩ : BufTy).Contents (Elt F)),
   binary main_v148 main_v10 main_v149 ((fun l r => Host.dotGeneral dot_S4x2048x256_S1024x256_S4x2048x1024_2_1_01_0_n_n none l r) : (⟨S4x2048x256, .f32⟩ : BufTy).Contents (Elt F) → (⟨S1024x256, .f32⟩ : BufTy).Contents (Elt F) → (⟨S4x2048x1024, .f32⟩ : BufTy).Contents (Elt F))] ++
  opsOf_fn_argmax (.of main_v149) main_call23

/-- Step 7: the lookup. -/
abbrev ops_take7 : List (HloOp τ sig (Elt F)) :=
  opsOf_fn_take (.of main_v10) (.of main_v150) main_call24

/-- Step 7: the loss, the running total and the next residual. -/
abbrev ops_acc7 : List (HloOp τ sig (Elt F)) :=
  [binary main_v151 main_v143 main_v152 (subf : (⟨S4x2048x256, .f32⟩ : BufTy).Contents (Elt F) → (⟨S4x2048x256, .f32⟩ : BufTy).Contents (Elt F) → (⟨S4x2048x256, .f32⟩ : BufTy).Contents (Elt F)),
   binary main_v143 main_v152 main_v153 (addf : (⟨S4x2048x256, .f32⟩ : BufTy).Contents (Elt F) → (⟨S4x2048x256, .f32⟩ : BufTy).Contents (Elt F) → (⟨S4x2048x256, .f32⟩ : BufTy).Contents (Elt F)),
   binary main_v151 main_v143 main_v154 (subf : (⟨S4x2048x256, .f32⟩ : BufTy).Contents (Elt F) → (⟨S4x2048x256, .f32⟩ : BufTy).Contents (Elt F) → (⟨S4x2048x256, .f32⟩ : BufTy).Contents (Elt F)),
   binary main_v154 main_v154 main_v155 (mulf : (⟨S4x2048x256, .f32⟩ : BufTy).Contents (Elt F) → (⟨S4x2048x256, .f32⟩ : BufTy).Contents (Elt F) → (⟨S4x2048x256, .f32⟩ : BufTy).Contents (Elt F)),
   nullary main_cst_33 (constant S_ .f32 0x00000000#32),
   binary main_v155 main_cst_33 main_v156 ((fun x v => Host.reduceAdd x v reducesTo_S4x2048x256_S_d0_1_2 h_S_) : (⟨S4x2048x256, .f32⟩ : BufTy).Contents (Elt F) → (⟨S_, .f32⟩ : BufTy).Contents (Elt F) → (⟨S_, .f32⟩ : BufTy).Contents (Elt F)),
   nullary main_cst_34 (constant S_ .f32 0x4A000000#32),
   binary main_v156 main_cst_34 main_v157 (Host.divf : (⟨S_, .f32⟩ : BufTy).Contents (Elt F) → (⟨S_, .f32⟩ : BufTy).Contents (Elt F) → (⟨S_, .f32⟩ : BufTy).Contents (Elt F)),
   nullary main_cst_35 (constant S_ .f32 0x41200000#32),
   binary main_cst_35 main_v16 main_v158 (mulf : (⟨S_, .f32⟩ : BufTy).Contents (Elt F) → (⟨S_, .f32⟩ : BufTy).Contents (Elt F) → (⟨S_, .f32⟩ : BufTy).Contents (Elt F)),
   binary main_v157 main_v158 main_v159 (addf : (⟨S_, .f32⟩ : BufTy).Contents (Elt F) → (⟨S_, .f32⟩ : BufTy).Contents (Elt F) → (⟨S_, .f32⟩ : BufTy).Contents (Elt F)),
   binary main_v142 main_v153 main_v160 (addf : (⟨S4x2048x256, .f32⟩ : BufTy).Contents (Elt F) → (⟨S4x2048x256, .f32⟩ : BufTy).Contents (Elt F) → (⟨S4x2048x256, .f32⟩ : BufTy).Contents (Elt F)),
   binary main_v143 main_v151 main_v161 (subf : (⟨S4x2048x256, .f32⟩ : BufTy).Contents (Elt F) → (⟨S4x2048x256, .f32⟩ : BufTy).Contents (Elt F) → (⟨S4x2048x256, .f32⟩ : BufTy).Contents (Elt F))]

/-- The stacked results and the decoder. -/
abbrev ops_post : List (HloOp τ sig (Elt F)) :=
  [unary main_v24 main_v162 (broadcastInDim S4x2048x1 ![0, 1] bcast_S4x2048_S4x2048x1_0_1 : (⟨S4x2048, .i32⟩ : BufTy).Contents (Elt F) → (⟨S4x2048x1, .i32⟩ : BufTy).Contents (Elt F)),
   unary main_v42 main_v163 (broadcastInDim S4x2048x1 ![0, 1] bcast_S4x2048_S4x2048x1_0_1 : (⟨S4x2048, .i32⟩ : BufTy).Contents (Elt F) → (⟨S4x2048x1, .i32⟩ : BufTy).Contents (Elt F)),
   unary main_v60 main_v164 (broadcastInDim S4x2048x1 ![0, 1] bcast_S4x2048_S4x2048x1_0_1 : (⟨S4x2048, .i32⟩ : BufTy).Contents (Elt F) → (⟨S4x2048x1, .i32⟩ : BufTy).Contents (Elt F)),
   unary main_v78 main_v165 (broadcastInDim S4x2048x1 ![0, 1] bcast_S4x2048_S4x2048x1_0_1 : (⟨S4x2048, .i32⟩ : BufTy).Contents (Elt F) → (⟨S4x2048x1, .i32⟩ : BufTy).Contents (Elt F)),
   unary main_v96 main_v166 (broadcastInDim S4x2048x1 ![0, 1] bcast_S4x2048_S4x2048x1_0_1 : (⟨S4x2048, .i32⟩ : BufTy).Contents (Elt F) → (⟨S4x2048x1, .i32⟩ : BufTy).Contents (Elt F)),
   unary main_v114 main_v167 (broadcastInDim S4x2048x1 ![0, 1] bcast_S4x2048_S4x2048x1_0_1 : (⟨S4x2048, .i32⟩ : BufTy).Contents (Elt F) → (⟨S4x2048x1, .i32⟩ : BufTy).Contents (Elt F)),
   unary main_v132 main_v168 (broadcastInDim S4x2048x1 ![0, 1] bcast_S4x2048_S4x2048x1_0_1 : (⟨S4x2048, .i32⟩ : BufTy).Contents (Elt F) → (⟨S4x2048x1, .i32⟩ : BufTy).Contents (Elt F)),
   unary main_v150 main_v169 (broadcastInDim S4x2048x1 ![0, 1] bcast_S4x2048_S4x2048x1_0_1 : (⟨S4x2048, .i32⟩ : BufTy).Contents (Elt F) → (⟨S4x2048x1, .i32⟩ : BufTy).Contents (Elt F)),
   nary ![main_v162, main_v163, main_v164, main_v165, main_v166, main_v167, main_v168, main_v169] main_v170 (fun u => (concatenate S4x2048x8 2 [⟨S4x2048x1, (u 0 : (⟨S4x2048x1, .i32⟩ : BufTy).Contents (Elt F))⟩, ⟨S4x2048x1, (u 1 : (⟨S4x2048x1, .i32⟩ : BufTy).Contents (Elt F))⟩, ⟨S4x2048x1, (u 2 : (⟨S4x2048x1, .i32⟩ : BufTy).Contents (Elt F))⟩, ⟨S4x2048x1, (u 3 : (⟨S4x2048x1, .i32⟩ : BufTy).Contents (Elt F))⟩, ⟨S4x2048x1, (u 4 : (⟨S4x2048x1, .i32⟩ : BufTy).Contents (Elt F))⟩, ⟨S4x2048x1, (u 5 : (⟨S4x2048x1, .i32⟩ : BufTy).Contents (Elt F))⟩, ⟨S4x2048x1, (u 6 : (⟨S4x2048x1, .i32⟩ : BufTy).Contents (Elt F))⟩, ⟨S4x2048x1, (u 7 : (⟨S4x2048x1, .i32⟩ : BufTy).Contents (Elt F))⟩] concatenates_S4x2048x1_S4x2048x1_S4x2048x1_S4x2048x1_S4x2048x1_S4x2048x1_S4x2048x1_S4x2048x1_S4x2048x8_d2 : (⟨S4x2048x8, .i32⟩ : BufTy).Contents (Elt F))),
   unary main_v33 main_v171 (broadcastInDim S1 ![] bcast_S_S1 : (⟨S_, .f32⟩ : BufTy).Contents (Elt F) → (⟨S1, .f32⟩ : BufTy).Contents (Elt F)),
   unary main_v51 main_v172 (broadcastInDim S1 ![] bcast_S_S1 : (⟨S_, .f32⟩ : BufTy).Contents (Elt F) → (⟨S1, .f32⟩ : BufTy).Contents (Elt F)),
   unary main_v69 main_v173 (broadcastInDim S1 ![] bcast_S_S1 : (⟨S_, .f32⟩ : BufTy).Contents (Elt F) → (⟨S1, .f32⟩ : BufTy).Contents (Elt F)),
   unary main_v87 main_v174 (broadcastInDim S1 ![] bcast_S_S1 : (⟨S_, .f32⟩ : BufTy).Contents (Elt F) → (⟨S1, .f32⟩ : BufTy).Contents (Elt F)),
   unary main_v105 main_v175 (broadcastInDim S1 ![] bcast_S_S1 : (⟨S_, .f32⟩ : BufTy).Contents (Elt F) → (⟨S1, .f32⟩ : BufTy).Contents (Elt F)),
   unary main_v123 main_v176 (broadcastInDim S1 ![] bcast_S_S1 : (⟨S_, .f32⟩ : BufTy).Contents (Elt F) → (⟨S1, .f32⟩ : BufTy).Contents (Elt F)),
   unary main_v141 main_v177 (broadcastInDim S1 ![] bcast_S_S1 : (⟨S_, .f32⟩ : BufTy).Contents (Elt F) → (⟨S1, .f32⟩ : BufTy).Contents (Elt F)),
   unary main_v159 main_v178 (broadcastInDim S1 ![] bcast_S_S1 : (⟨S_, .f32⟩ : BufTy).Contents (Elt F) → (⟨S1, .f32⟩ : BufTy).Contents (Elt F)),
   nary ![main_v171, main_v172, main_v173, main_v174, main_v175, main_v176, main_v177, main_v178] main_v179 (fun u => (concatenate S8 0 [⟨S1, (u 0 : (⟨S1, .f32⟩ : BufTy).Contents (Elt F))⟩, ⟨S1, (u 1 : (⟨S1, .f32⟩ : BufTy).Contents (Elt F))⟩, ⟨S1, (u 2 : (⟨S1, .f32⟩ : BufTy).Contents (Elt F))⟩, ⟨S1, (u 3 : (⟨S1, .f32⟩ : BufTy).Contents (Elt F))⟩, ⟨S1, (u 4 : (⟨S1, .f32⟩ : BufTy).Contents (Elt F))⟩, ⟨S1, (u 5 : (⟨S1, .f32⟩ : BufTy).Contents (Elt F))⟩, ⟨S1, (u 6 : (⟨S1, .f32⟩ : BufTy).Contents (Elt F))⟩, ⟨S1, (u 7 : (⟨S1, .f32⟩ : BufTy).Contents (Elt F))⟩] concatenates_S1_S1_S1_S1_S1_S1_S1_S1_S8_d0 : (⟨S8, .f32⟩ : BufTy).Contents (Elt F))),
   unary main_v160 main_v180 ((transpose S4x256x2048 [0, 2, 1] · transposes_S4x2048x256_S4x256x2048_0_2_1) : (⟨S4x2048x256, .f32⟩ : BufTy).Contents (Elt F) → (⟨S4x256x2048, .f32⟩ : BufTy).Contents (Elt F)),
   binary main_v180 main_arg3 main_v181 ((fun l r => Host.dotGeneral dot_S4x256x2048_S64x256_S4x2048x64_1_1_02_0_n_n none l r) : (⟨S4x256x2048, .f32⟩ : BufTy).Contents (Elt F) → (⟨S64x256, .f32⟩ : BufTy).Contents (Elt F) → (⟨S4x2048x64, .f32⟩ : BufTy).Contents (Elt F)),
   unary main_v181 main_v182 ((transpose S4x64x2048 [0, 2, 1] · transposes_S4x2048x64_S4x64x2048_0_2_1) : (⟨S4x2048x64, .f32⟩ : BufTy).Contents (Elt F) → (⟨S4x64x2048, .f32⟩ : BufTy).Contents (Elt F)),
   unary main_arg4 main_v183 (broadcastInDim S1x64x1 ![1] bcast_S64_S1x64x1_1 : (⟨S64, .f32⟩ : BufTy).Contents (Elt F) → (⟨S1x64x1, .f32⟩ : BufTy).Contents (Elt F)),
   unary main_v183 main_v184 (broadcastInDim S4x64x2048 ![0, 1, 2] bcast_S1x64x1_S4x64x2048_0_1_2 : (⟨S1x64x1, .f32⟩ : BufTy).Contents (Elt F) → (⟨S4x64x2048, .f32⟩ : BufTy).Contents (Elt F)),
   binary main_v182 main_v184 main_v185 (addf : (⟨S4x64x2048, .f32⟩ : BufTy).Contents (Elt F) → (⟨S4x64x2048, .f32⟩ : BufTy).Contents (Elt F) → (⟨S4x64x2048, .f32⟩ : BufTy).Contents (Elt F))]

/-- The operations of the reference, in order, one list per stage. -/
abbrev stages : List (List (HloOp τ sig (Elt F))) :=
  [ops_pre, ops_find0, ops_take0, ops_acc0, ops_find1, ops_take1, ops_acc1, ops_find2, ops_take2, ops_acc2, ops_find3, ops_take3, ops_acc3, ops_find4, ops_take4, ops_acc4, ops_find5, ops_take5, ops_acc5, ops_find6, ops_take6, ops_acc6, ops_find7, ops_take7, ops_acc7, ops_post]

end Cert.Proof.Ref

end
-- ==== Proof.RefRun.lean ====
/- The run of the reference: every buffer ends at the stages' operations folded over the launch contents. -/
module

public import proofs.«01_k».proof.Proof.RefOps
public import Idealize.ShloMosaic.Lib.Quiescent
public import Idealize.ShloMosaic.Lib.StableHlo.RunRead

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The reference runs its stages one after the other. -/
theorem main_eq (d : Dev nD) : main (F := F) d = seq (stages (F := F)).flatten := rfl

/-- No buffer of the reference is scoped. -/
theorem scopedRefs_eq : (Finset.univ.filter fun b : Ref sig .tc => b.isScoped) = ∅ := by decide

/-- The reference has no semaphore that is scoped. -/
theorem scopedSems_eq : (Finset.univ.filter fun sm : SemLoc sig => sm.isScoped .tc) = ∅ := by decide

/-- Every operation of each stage reads and writes buffers of the core alone. -/
theorem stage_sub : ∀ l ∈ stages (F := F), ∀ op ∈ l, op.bufs ⊆ tcRefs τ sig := by
  simp only [List.forall_mem_cons, List.forall_mem_append, List.not_mem_nil, false_imp_iff, implies_true, and_true,
    nullary_bufs_sub, unary_bufs_sub, binary_bufs_sub, ternary_bufs_sub, quaternary_bufs_sub, nary_bufs_sub]

/-- Every operation of each stage determines what it writes. -/
theorem stage_fresh : ∀ l ∈ stages (F := F), ∀ op ∈ l, op.fresh = ∅ := by
  simp only [List.forall_mem_cons, List.forall_mem_append, List.not_mem_nil, false_imp_iff, implies_true, and_true]
  repeat' apply And.intro
  all_goals rfl

/-- The operations of the whole line read and write buffers of the core alone. -/
theorem ops_sub : (stages (F := F)).flatten.Forall fun op => op.bufs ⊆ tcRefs τ sig :=
  List.forall_iff_forall_mem.mpr fun op h => by
    obtain ⟨l, hl, ho⟩ := List.mem_flatten.mp h
    exact stage_sub l hl op ho

/-- The operations of the whole line determine what they write. -/
theorem ops_fresh : ∀ op ∈ (stages (F := F)).flatten, op.fresh = ∅ := fun op h => by
  obtain ⟨l, hl, ho⟩ := List.mem_flatten.mp h
  exact stage_fresh l hl op ho

/-- The reference's run: every buffer ends at the operations folded over the launch contents. -/
theorem run (m : (ℓ : Loc nD τ sig) → Buf (Elt F) ℓ) (ρ : Dev nD → PrngReg) :
    θ_run (defs (F := F)) (onTc (τ := τ) (main (F := F))) ⟨m, fun _ => 0, ρ⟩ fun r =>
      ∀ (d : Dev nD) (b : Ref sig .tc), r.2.mem ((d.tc : Thread nD τ).loc b)
        = after (stages (F := F)).flatten (launchContents m d) (Proc.devRef .tc b) :=
  run_seq scopedRefs_eq scopedSems_eq defs main (fun _ => stages.flatten) main_eq (fun _ => ops_sub) m ρ (fun _ => ops_fresh)

end Cert.Proof.Ref

end
-- ==== Proof.RefFrame.lean ====
/- The reference leaves its arguments as they were, with every semaphore counter at zero. -/
module

public import proofs.«01_k».proof.Proof.RefRun
public import proofs.«01_k».proof.Defs

@[expose] public section

set_option maxRecDepth 16384

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- No operation of the reference writes an argument. -/
theorem args_kept (V : Valuation τ sig (Elt F)) :
    after (stages (F := F)).flatten V (Proc.devRef .tc main_arg0) = V (Proc.devRef .tc main_arg0)
    ∧ after (stages (F := F)).flatten V (Proc.devRef .tc main_arg1) = V (Proc.devRef .tc main_arg1)
    ∧ after (stages (F := F)).flatten V (Proc.devRef .tc main_arg2) = V (Proc.devRef .tc main_arg2)
    ∧ after (stages (F := F)).flatten V (Proc.devRef .tc main_arg3) = V (Proc.devRef .tc main_arg3)
    ∧ after (stages (F := F)).flatten V (Proc.devRef .tc main_arg4) = V (Proc.devRef .tc main_arg4)
    ∧ after (stages (F := F)).flatten V (Proc.devRef .tc main_arg5) = V (Proc.devRef .tc main_arg5) := by
  after_reads_simp
  simp only [and_self]

/-- The reference's frame: its arguments unchanged, every semaphore counter at zero. -/
theorem frame (m : (ℓ : Loc nD τ sig) → Buf (Elt F) ℓ) (ρ : Dev nD → PrngReg) :
    θ_run (defs (F := F)) (onTc (τ := τ) (main (F := F))) ⟨m, fun _ => 0, ρ⟩ fun r =>
      (∀ c : Dev nD,
        r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4)
        ∧ r.2.mem ((c.tc : Thread nD τ).loc main_arg5) = m ((c.tc : Thread nD τ).loc main_arg5))
      ∧ r.2.sem = fun _ => 0 := by
  refine (θ_run _ _ _).mono (fun r h => ⟨fun c => ?_, sem_eq_zero_of_no_sems (by decide) _⟩) (run m ρ)
  simp only [h c]
  exact args_kept _

end Cert.Proof.Ref

end
-- ==== Proof.KStep.lean ====
module

public import proofs.«01_k».proof.Proof.Gen.KernelIdeal.Skeleton
public import Idealize.ShloMosaic.Lib.Pipeline.ValueKit

@[expose] public section

/-!
# One step of the kernel's body

The body runs the same step eight times on a block of 1024 residual rows. The definitions here name the
values of one step; the theorems say that each stretch of the body which the generated modules name is one
of these values at the residual of its step.
-/

set_option maxRecDepth 16384

noncomputable section

namespace Cert.Proof.Ker
open Cert.KernelIdeal Cert.KernelIdeal.Gen
open Idealize.ShloMosaic Idealize.ShloMosaic.TcCoe Idealize.SL.Sem

/-- The residual rows scaled by their norms. -/
def stRn (r : FVec Ideal S1024x256 .f32) : FVec Ideal S1024x256 .f32 :=
  divf r (broadcastTo S1024x256 (addf (sqrt (shapeCast S1024x1 (multiReduction .add [1] S1024 (mulf r r) 0x00000000#32
    reduces_S1024x256_S1024 (.inl rfl) rfl) shapeCasts_S1024_S1024x1)) (broadcast S1024x1 (Scalar.ofBits .f32 0x2B8CBCCC#32)))
    broadcasts_S1024x1_S1024x256)

/-- The similarities of the rows to the entries of the codebook `w` (transposed). -/
def stSim (w : FVec Ideal S256x1024 .f32) (r : FVec Ideal S1024x256 .f32) : FVec Ideal S1024x1024 .f32 :=
  matmul dot_S1024x256_S256x1024_S1024x1024_1_0_0_1_n_n none (stRn r) w (constant S1024x1024 .f32 0x00000000#32)

/-- Where a similarity is the largest of its row. -/
def stEq (w : FVec Ideal S256x1024 .f32) (r : FVec Ideal S1024x256 .f32) : IVec S1024x1024 1 :=
  cmpf .oeq (stSim w r) (broadcastTo S1024x1024 (shapeCast S1024x1 (multiReduction .maximumf [1] S1024 (stSim w r) 0xFF800000#32
    reduces_S1024x1024_S1024 (.inl rfl) rfl) shapeCasts_S1024_S1024x1) broadcasts_S1024x1_S1024x1024)

/-- The least column that a mask marks in each row. -/
def stPick (io : IVec S1024x1024 32) (e : IVec S1024x1024 1) : IVec S1024x1 32 :=
  shapeCast S1024x1 (multiReductionI .minsi [1] S1024 (select e io
    (broadcast S1024x1024 1024#32)) 2147483647#32 reduces_S1024x1024_S1024 rfl) shapeCasts_S1024_S1024x1

/-- The chosen entry of each row. -/
def stIdx (io : IVec S1024x1024 32) (w : FVec Ideal S256x1024 .f32) (r : FVec Ideal S1024x256 .f32) : IVec S1024x1 32 := stPick io (stEq w r)

/-- The chosen entries as rows of zeros and a one. -/
def stHot (io : IVec S1024x1024 32) (i : IVec S1024x1 32) : FVec Ideal S1024x1024 .bf16 :=
  truncf .bf16 (sitofp .f32 (extui 32 (cmpi .eq io
    (broadcastTo S1024x1024 i broadcasts_S1024x1_S1024x1024)) natLt_1_32)) bitsLt_bf16_f32

/-- The chosen rows of one part of the codebook. -/
def stRows (io : IVec S1024x1024 32) (s : FVec Ideal S1024x256 .bf16) (i : IVec S1024x1 32) : FVec Ideal S1024x256 .f32 :=
  matmul dot_S1024x1024_S1024x256_S1024x256_1_0_0_1_n_n none (stHot io i) s (constant S1024x256 .f32 0x00000000#32)

/-- The sum of the chosen rows of the first two parts. -/
def stPart (io : IVec S1024x1024 32) (s0 s1 : FVec Ideal S1024x256 .bf16) (i : IVec S1024x1 32) : FVec Ideal S1024x256 .f32 :=
  addf (stRows io s0 i) (stRows io s1 i)

/-- The chosen rows of the last part. -/
def stLast (io : IVec S1024x1024 32) (s2 : FVec Ideal S1024x256 .bf16) (i : IVec S1024x1 32) : FVec Ideal S1024x256 .f32 := stRows io s2 i

/-- The chosen codebook rows, the sum of the three parts' rows. -/
def stVec (io : IVec S1024x1024 32) (w : FVec Ideal S256x1024 .f32) (s0 s1 s2 : FVec Ideal S1024x256 .bf16) (r : FVec Ideal S1024x256 .f32) :
    FVec Ideal S1024x256 .f32 := addf (stPart io s0 s1 (stIdx io w r)) (stLast io s2 (stIdx io w r))

/-- The chosen rows less the residual. -/
def stD (io : IVec S1024x1024 32) (w : FVec Ideal S256x1024 .f32) (s0 s1 s2 : FVec Ideal S1024x256 .bf16) (r : FVec Ideal S1024x256 .f32) :
    FVec Ideal S1024x256 .f32 := subf (stVec io w s0 s1 s2 r) r

/-- The sum of the squares of the difference, as a block of one element. -/
def stSq (io : IVec S1024x1024 32) (w : FVec Ideal S256x1024 .f32) (s0 s1 s2 : FVec Ideal S1024x256 .bf16) (r : FVec Ideal S1024x256 .f32) :
    FVec Ideal S1 .f32 :=
  multiReduction .add [1, 2] S1 (shapeCast S1x1024x256 (mulf (stD io w s0 s1 s2 r) (stD io w s0 s1 s2 r))
    shapeCasts_S1024x256_S1x1024x256) 0x00000000#32 reduces_S1x1024x256_S1 (.inl rfl) rfl

/-- The sum of the squares of the difference. -/
def stCom (io : IVec S1024x1024 32) (w : FVec Ideal S256x1024 .f32) (s0 s1 s2 : FVec Ideal S1024x256 .bf16) (r : FVec Ideal S1024x256 .f32) :
    Ideal .f32 := extractAt ![0, 0, 0] (shapeCast S1x1x1 (stSq io w s0 s1 s2 r) shapeCasts_S1_S1x1x1) inpos_S1x1x1_p0_0_0

/-- The running total after the step. -/
def stT (io : IVec S1024x1024 32) (w : FVec Ideal S256x1024 .f32) (s0 s1 s2 : FVec Ideal S1024x256 .bf16) (r t : FVec Ideal S1024x256 .f32) :
    FVec Ideal S1024x256 .f32 := addf t (addf r (stD io w s0 s1 s2 r))

/-- The residual after the step. -/
def stNext (io : IVec S1024x1024 32) (w : FVec Ideal S256x1024 .f32) (s0 s1 s2 : FVec Ideal S1024x256 .bf16) (r : FVec Ideal S1024x256 .f32) :
    FVec Ideal S1024x256 .f32 := subf r (stVec io w s0 s1 s2 r)

/-- The chosen entries as a vector. -/
def stCol (i : IVec S1024x1 32) : IVec S1024 32 := shapeCast S1024 i shapeCasts_S1024x1_S1024

/-- The chosen entries as the column that is stored. -/
def stOut (i : IVec S1024x1 32) : IVec S1x1024x1 32 := shapeCast S1x1024x1 (stCol i) shapeCasts_S1024_S1x1024x1

/-- The residual after `q` steps from `z`. -/
def stR (io : IVec S1024x1024 32) (w : FVec Ideal S256x1024 .f32) (s0 s1 s2 : FVec Ideal S1024x256 .bf16) (z : FVec Ideal S1024x256 .f32) :
    Nat → FVec Ideal S1024x256 .f32
  | 0 => z
  | q + 1 => stNext io w s0 s1 s2 (stR io w s0 s1 s2 z q)

/-- The running total after `q` steps from `z`. -/
def stS (io : IVec S1024x1024 32) (w : FVec Ideal S256x1024 .f32) (s0 s1 s2 : FVec Ideal S1024x256 .bf16) (z : FVec Ideal S1024x256 .f32) :
    Nat → FVec Ideal S1024x256 .f32
  | 0 => broadcast S1024x256 (Scalar.ofBits .f32 0x00000000#32)
  | q + 1 => stT io w s0 s1 s2 (stR io w s0 s1 s2 z q) (stS io w s0 s1 s2 z q)

/-! ## The stretches of the body -/

theorem pay8_eq (io : IVec S1024x1024 32) (w : FVec Ideal S256x1024 .f32) (s0 s1 s2 : FVec Ideal S1024x256 .bf16) (z : FVec Ideal S1024x256 .f32) :
    k0_pay8 (F := Ideal) = stS io w s0 s1 s2 z 0 := rfl

theorem pay9_eq (x0 : Vec Ideal S1x1024x64 .f32) (x1 : Vec Ideal S64x256 .f32) (x2 : Vec Ideal S1x256 .f32) :
    k0_pay9 x0 x1 x2 = stRn (k0_pay3 x0 x1 x2) := rfl

theorem pay10_eq (io : IVec S1024x1024 32) (w : FVec Ideal S256x1024 .f32) (r : FVec Ideal S1024x256 .f32) :
    k0_pay10 w io (stRn r) (constant (F := Ideal) S1024x1024 .f32 0x00000000#32) = stIdx io w r := rfl

theorem pay11_eq (io : IVec S1024x1024 32) (w : FVec Ideal S256x1024 .f32) (s0 s1 s2 : FVec Ideal S1024x256 .bf16) (r : FVec Ideal S1024x256 .f32) :
    k0_pay11 w s0 s1 s2 io (stRn r) (constant (F := Ideal) S1024x1024 .f32 0x00000000#32) = stVec io w s0 s1 s2 r := rfl

theorem pay12_eq (io : IVec S1024x1024 32) (w : FVec Ideal S256x1024 .f32) (s0 s1 s2 : FVec Ideal S1024x256 .bf16) (r : FVec Ideal S1024x256 .f32) :
    k0_pay12 r w s0 s1 s2 io (stRn r) (constant (F := Ideal) S1024x1024 .f32 0x00000000#32) = stD io w s0 s1 s2 r := rfl

theorem pay13_eq (io : IVec S1024x1024 32) (w : FVec Ideal S256x1024 .f32) (s0 s1 s2 : FVec Ideal S1024x256 .bf16) (r : FVec Ideal S1024x256 .f32) :
    k0_pay13 r w s0 s1 s2 io (stRn r) (constant (F := Ideal) S1024x1024 .f32 0x00000000#32) = stCom io w s0 s1 s2 r := rfl

theorem pay14_eq (io : IVec S1024x1024 32) (w : FVec Ideal S256x1024 .f32) (s0 s1 s2 : FVec Ideal S1024x256 .bf16) (r t : FVec Ideal S1024x256 .f32) :
    k0_pay14 r w s0 s1 s2 t io (stRn r) (constant (F := Ideal) S1024x1024 .f32 0x00000000#32) = stT io w s0 s1 s2 r t := rfl

theorem pay15_eq (io : IVec S1024x1024 32) (w : FVec Ideal S256x1024 .f32) (s0 s1 s2 : FVec Ideal S1024x256 .bf16) (r : FVec Ideal S1024x256 .f32) :
    k0_pay15 r w s0 s1 s2 io (stRn r) (constant (F := Ideal) S1024x1024 .f32 0x00000000#32) = stNext io w s0 s1 s2 r := rfl

theorem pay16_eq (io : IVec S1024x1024 32) (w : FVec Ideal S256x1024 .f32) (r : FVec Ideal S1024x256 .f32) :
    k0_pay16 w io (stRn r) (constant (F := Ideal) S1024x1024 .f32 0x00000000#32) = stOut (stIdx io w r) := rfl

theorem pay17_eq (io : IVec S1024x1024 32) (w : FVec Ideal S256x1024 .f32) (s0 s1 s2 : FVec Ideal S1024x256 .bf16) (r : FVec Ideal S1024x256 .f32) :
    k0_pay17 r w s0 s1 s2 io (stRn r) (constant (F := Ideal) S1024x1024 .f32 0x00000000#32) = stEq w (stNext io w s0 s1 s2 r) := rfl

theorem pay18_eq (io : IVec S1024x1024 32) (w : FVec Ideal S256x1024 .f32) (r : FVec Ideal S1024x256 .f32) :
    k0_pay18 io (stEq w r) = stIdx io w r := rfl

theorem pay19_eq (io : IVec S1024x1024 32) (w : FVec Ideal S256x1024 .f32) (s0 s1 s2 : FVec Ideal S1024x256 .bf16) (r : FVec Ideal S1024x256 .f32) :
    k0_pay19 s0 s1 s2 io (stEq w r) = stVec io w s0 s1 s2 r := rfl

theorem pay20_eq (io : IVec S1024x1024 32) (w : FVec Ideal S256x1024 .f32) (s0 s1 s2 : FVec Ideal S1024x256 .bf16) (r : FVec Ideal S1024x256 .f32) :
    k0_pay20 s0 s1 s2 io r (stEq w r) = stD io w s0 s1 s2 r := rfl

theorem pay21_eq (io : IVec S1024x1024 32) (w : FVec Ideal S256x1024 .f32) (s0 s1 s2 : FVec Ideal S1024x256 .bf16) (r : FVec Ideal S1024x256 .f32) :
    k0_pay21 s0 s1 s2 io r (stEq w r) = stCom io w s0 s1 s2 r := rfl

theorem pay22_eq (io : IVec S1024x1024 32) (w : FVec Ideal S256x1024 .f32) (s0 s1 s2 : FVec Ideal S1024x256 .bf16) (r t : FVec Ideal S1024x256 .f32) :
    k0_pay22 s0 s1 s2 io t r (stEq w r) = stT io w s0 s1 s2 r t := rfl

theorem pay23_eq (io : IVec S1024x1024 32) (w : FVec Ideal S256x1024 .f32) (s0 s1 s2 : FVec Ideal S1024x256 .bf16) (r : FVec Ideal S1024x256 .f32) :
    k0_pay23 s0 s1 s2 io r (stEq w r) = stNext io w s0 s1 s2 r := rfl

theorem pay24_eq (io : IVec S1024x1024 32) (w : FVec Ideal S256x1024 .f32) (r : FVec Ideal S1024x256 .f32) :
    k0_pay24 io (stEq w r) = stOut (stIdx io w r) := rfl

theorem pay25_eq (io : IVec S1024x1024 32) (w : FVec Ideal S256x1024 .f32) (s0 s1 s2 : FVec Ideal S1024x256 .bf16) (r : FVec Ideal S1024x256 .f32) :
    k0_pay25 w s0 s1 s2 io r (stEq w r) = stIdx io w (stNext io w s0 s1 s2 r) := rfl

theorem pay26_eq (io : IVec S1024x1024 32) (w : FVec Ideal S256x1024 .f32) (s0 s1 s2 : FVec Ideal S1024x256 .bf16) (r : FVec Ideal S1024x256 .f32) :
    k0_pay26 s0 s1 s2 io (stIdx io w r) = stVec io w s0 s1 s2 r := rfl

theorem pay27_eq (io : IVec S1024x1024 32) (w : FVec Ideal S256x1024 .f32) (s0 s1 s2 : FVec Ideal S1024x256 .bf16) (r : FVec Ideal S1024x256 .f32) :
    k0_pay27 s0 s1 s2 io r (stIdx io w r) = stD io w s0 s1 s2 r := rfl

theorem pay28_eq (io : IVec S1024x1024 32) (w : FVec Ideal S256x1024 .f32) (s0 s1 s2 : FVec Ideal S1024x256 .bf16) (r : FVec Ideal S1024x256 .f32) :
    k0_pay28 s0 s1 s2 io r (stIdx io w r) = stCom io w s0 s1 s2 r := rfl

theorem pay29_eq (io : IVec S1024x1024 32) (w : FVec Ideal S256x1024 .f32) (s0 s1 s2 : FVec Ideal S1024x256 .bf16) (r t : FVec Ideal S1024x256 .f32) :
    k0_pay29 s0 s1 s2 io t r (stIdx io w r) = stT io w s0 s1 s2 r t := rfl

theorem pay30_eq (io : IVec S1024x1024 32) (w : FVec Ideal S256x1024 .f32) (s0 s1 s2 : FVec Ideal S1024x256 .bf16) (r : FVec Ideal S1024x256 .f32) :
    k0_pay30 s0 s1 s2 io r (stIdx io w r) = stNext io w s0 s1 s2 r := rfl

theorem pay31_eq (i : IVec S1024x1 32) :
    k0_pay31 i = stOut i := rfl

theorem pay32_eq (io : IVec S1024x1024 32) (w : FVec Ideal S256x1024 .f32) (s0 s1 s2 : FVec Ideal S1024x256 .bf16) (r : FVec Ideal S1024x256 .f32) :
    k0_pay32 w s0 s1 s2 io r (stIdx io w r) = stIdx io w (stNext io w s0 s1 s2 r) := rfl

theorem pay33_eq (io : IVec S1024x1024 32) (w : FVec Ideal S256x1024 .f32) (s0 s1 s2 : FVec Ideal S1024x256 .bf16) (r : FVec Ideal S1024x256 .f32) :
    k0_pay33 w s0 s1 s2 io r (stIdx io w r) = stHot io (stIdx io w (stNext io w s0 s1 s2 r)) := rfl

theorem pay34_eq (io : IVec S1024x1024 32) (w : FVec Ideal S256x1024 .f32) (s0 s1 s2 : FVec Ideal S1024x256 .bf16) (r : FVec Ideal S1024x256 .f32) :
    k0_pay34 s0 s1 s2 (stHot io (stIdx io w r)) (constant (F := Ideal) S1024x256 .f32 0x00000000#32) = stVec io w s0 s1 s2 r := rfl

theorem pay35_eq (io : IVec S1024x1024 32) (w : FVec Ideal S256x1024 .f32) (s0 s1 s2 : FVec Ideal S1024x256 .bf16) (r : FVec Ideal S1024x256 .f32) :
    k0_pay35 s0 s1 s2 r (stHot io (stIdx io w r)) (constant (F := Ideal) S1024x256 .f32 0x00000000#32) = stD io w s0 s1 s2 r := rfl

theorem pay36_eq (io : IVec S1024x1024 32) (w : FVec Ideal S256x1024 .f32) (s0 s1 s2 : FVec Ideal S1024x256 .bf16) (r : FVec Ideal S1024x256 .f32) :
    k0_pay36 s0 s1 s2 r (stHot io (stIdx io w r)) (constant (F := Ideal) S1024x256 .f32 0x00000000#32) = stCom io w s0 s1 s2 r := rfl

theorem pay37_eq (io : IVec S1024x1024 32) (w : FVec Ideal S256x1024 .f32) (s0 s1 s2 : FVec Ideal S1024x256 .bf16) (r t : FVec Ideal S1024x256 .f32) :
    k0_pay37 s0 s1 s2 t r (stHot io (stIdx io w r)) (constant (F := Ideal) S1024x256 .f32 0x00000000#32) = stT io w s0 s1 s2 r t := rfl

theorem pay38_eq (io : IVec S1024x1024 32) (w : FVec Ideal S256x1024 .f32) (s0 s1 s2 : FVec Ideal S1024x256 .bf16) (r : FVec Ideal S1024x256 .f32) :
    k0_pay38 s0 s1 s2 r (stHot io (stIdx io w r)) (constant (F := Ideal) S1024x256 .f32 0x00000000#32) = stNext io w s0 s1 s2 r := rfl

theorem pay39_eq (i : IVec S1024x1 32) :
    k0_pay39 i = stOut i := rfl

theorem pay40_eq (io : IVec S1024x1024 32) (w : FVec Ideal S256x1024 .f32) (s0 s1 s2 : FVec Ideal S1024x256 .bf16) (r : FVec Ideal S1024x256 .f32) :
    k0_pay40 w s0 s1 s2 io r (stHot io (stIdx io w r)) (constant (F := Ideal) S1024x256 .f32 0x00000000#32) = stIdx io w (stNext io w s0 s1 s2 r) := rfl

theorem pay41_eq (io : IVec S1024x1024 32) (w : FVec Ideal S256x1024 .f32) (s0 s1 s2 : FVec Ideal S1024x256 .bf16) (r : FVec Ideal S1024x256 .f32) :
    k0_pay41 w s0 s1 s2 io r (stHot io (stIdx io w r)) (constant (F := Ideal) S1024x256 .f32 0x00000000#32) = stHot io (stIdx io w (stNext io w s0 s1 s2 r)) := rfl

theorem pay42_eq (io : IVec S1024x1024 32) (w : FVec Ideal S256x1024 .f32) (s0 s1 s2 : FVec Ideal S1024x256 .bf16) (r : FVec Ideal S1024x256 .f32) :
    k0_pay42 w s0 s1 s2 io r (stHot io (stIdx io w r)) (constant (F := Ideal) S1024x256 .f32 0x00000000#32) = stPart io s0 s1 (stIdx io w (stNext io w s0 s1 s2 r)) := rfl

theorem pay43_eq (io : IVec S1024x1024 32) (w : FVec Ideal S256x1024 .f32) (s0 s1 s2 : FVec Ideal S1024x256 .bf16) (r : FVec Ideal S1024x256 .f32) :
    k0_pay43 w s0 s1 s2 io r (stHot io (stIdx io w r)) (constant (F := Ideal) S1024x256 .f32 0x00000000#32) = stLast io s2 (stIdx io w (stNext io w s0 s1 s2 r)) := rfl

theorem pay44_eq (io : IVec S1024x1024 32) (w : FVec Ideal S256x1024 .f32) (s0 s1 s2 : FVec Ideal S1024x256 .bf16) (r : FVec Ideal S1024x256 .f32) :
    k0_pay44 (stPart io s0 s1 (stIdx io w r)) (stLast io s2 (stIdx io w r)) = stVec io w s0 s1 s2 r := rfl

theorem pay45_eq (io : IVec S1024x1024 32) (w : FVec Ideal S256x1024 .f32) (s0 s1 s2 : FVec Ideal S1024x256 .bf16) (r : FVec Ideal S1024x256 .f32) :
    k0_pay45 r (stPart io s0 s1 (stIdx io w r)) (stLast io s2 (stIdx io w r)) = stD io w s0 s1 s2 r := rfl

theorem pay46_eq (io : IVec S1024x1024 32) (w : FVec Ideal S256x1024 .f32) (s0 s1 s2 : FVec Ideal S1024x256 .bf16) (r : FVec Ideal S1024x256 .f32) :
    k0_pay46 r (stPart io s0 s1 (stIdx io w r)) (stLast io s2 (stIdx io w r)) = stCom io w s0 s1 s2 r := rfl

theorem pay47_eq (io : IVec S1024x1024 32) (w : FVec Ideal S256x1024 .f32) (s0 s1 s2 : FVec Ideal S1024x256 .bf16) (r t : FVec Ideal S1024x256 .f32) :
    k0_pay47 t r (stPart io s0 s1 (stIdx io w r)) (stLast io s2 (stIdx io w r)) = stT io w s0 s1 s2 r t := rfl

theorem pay48_eq (io : IVec S1024x1024 32) (w : FVec Ideal S256x1024 .f32) (s0 s1 s2 : FVec Ideal S1024x256 .bf16) (r : FVec Ideal S1024x256 .f32) :
    k0_pay48 r (stPart io s0 s1 (stIdx io w r)) (stLast io s2 (stIdx io w r)) = stNext io w s0 s1 s2 r := rfl

theorem pay49_eq (i : IVec S1024x1 32) :
    k0_pay49 i = stOut i := rfl

theorem pay50_eq (io : IVec S1024x1024 32) (w : FVec Ideal S256x1024 .f32) (s0 s1 s2 : FVec Ideal S1024x256 .bf16) (r : FVec Ideal S1024x256 .f32) :
    k0_pay50 w io r (stPart io s0 s1 (stIdx io w r)) (stLast io s2 (stIdx io w r)) = stIdx io w (stNext io w s0 s1 s2 r) := rfl

theorem pay51_eq (io : IVec S1024x1024 32) (w : FVec Ideal S256x1024 .f32) (s0 s1 s2 : FVec Ideal S1024x256 .bf16) (r : FVec Ideal S1024x256 .f32) :
    k0_pay51 w s0 s1 s2 io r (stPart io s0 s1 (stIdx io w r)) (stLast io s2 (stIdx io w r)) = stVec io w s0 s1 s2 (stNext io w s0 s1 s2 r) := rfl

theorem pay52_eq (io : IVec S1024x1024 32) (w : FVec Ideal S256x1024 .f32) (s0 s1 s2 : FVec Ideal S1024x256 .bf16) (r : FVec Ideal S1024x256 .f32) :
    k0_pay52 w s0 s1 s2 io r (stPart io s0 s1 (stIdx io w r)) (stLast io s2 (stIdx io w r)) = stD io w s0 s1 s2 (stNext io w s0 s1 s2 r) := rfl

theorem pay53_eq (io : IVec S1024x1024 32) (w : FVec Ideal S256x1024 .f32) (s0 s1 s2 : FVec Ideal S1024x256 .bf16) (r : FVec Ideal S1024x256 .f32) :
    k0_pay53 w s0 s1 s2 io r (stPart io s0 s1 (stIdx io w r)) (stLast io s2 (stIdx io w r)) = stSq io w s0 s1 s2 (stNext io w s0 s1 s2 r) := rfl

theorem pay54_eq (io : IVec S1024x1024 32) (w : FVec Ideal S256x1024 .f32) (s0 s1 s2 : FVec Ideal S1024x256 .bf16) (r : FVec Ideal S1024x256 .f32) :
    k0_pay54 (stSq io w s0 s1 s2 r) = stCom io w s0 s1 s2 r := rfl

theorem pay55_eq (io : IVec S1024x1024 32) (w : FVec Ideal S256x1024 .f32) (s0 s1 s2 : FVec Ideal S1024x256 .bf16) (r : FVec Ideal S1024x256 .f32) :
    k0_pay55 r (stVec io w s0 s1 s2 r) = stNext io w s0 s1 s2 r := rfl

theorem pay56_eq (i : IVec S1024x1 32) :
    k0_pay56 i = stOut i := rfl

theorem pay57_eq (io : IVec S1024x1024 32) (w : FVec Ideal S256x1024 .f32) (s0 s1 s2 : FVec Ideal S1024x256 .bf16) (r : FVec Ideal S1024x256 .f32) :
    k0_pay57 w io r (stVec io w s0 s1 s2 r) = stIdx io w (stNext io w s0 s1 s2 r) := rfl

theorem pay58_eq (io : IVec S1024x1024 32) (w : FVec Ideal S256x1024 .f32) (s0 s1 s2 : FVec Ideal S1024x256 .bf16) (r : FVec Ideal S1024x256 .f32) :
    k0_pay58 w s0 s1 s2 io r (stVec io w s0 s1 s2 r) = stVec io w s0 s1 s2 (stNext io w s0 s1 s2 r) := rfl

theorem pay59_eq (io : IVec S1024x1024 32) (w : FVec Ideal S256x1024 .f32) (s0 s1 s2 : FVec Ideal S1024x256 .bf16) (r : FVec Ideal S1024x256 .f32) :
    k0_pay59 w s0 s1 s2 io r (stVec io w s0 s1 s2 r) = stD io w s0 s1 s2 (stNext io w s0 s1 s2 r) := rfl

theorem pay60_eq (io : IVec S1024x1024 32) (w : FVec Ideal S256x1024 .f32) (s0 s1 s2 : FVec Ideal S1024x256 .bf16) (r : FVec Ideal S1024x256 .f32) :
    k0_pay60 w s0 s1 s2 io r (stVec io w s0 s1 s2 r) = stCom io w s0 s1 s2 (stNext io w s0 s1 s2 r) := rfl

theorem pay61_eq (io : IVec S1024x1024 32) (w : FVec Ideal S256x1024 .f32) (s0 s1 s2 : FVec Ideal S1024x256 .bf16) (r t : FVec Ideal S1024x256 .f32) :
    k0_pay61 w s0 s1 s2 io t r (stVec io w s0 s1 s2 r) (stD io w s0 s1 s2 r) = stT io w s0 s1 s2 (stNext io w s0 s1 s2 r) (stT io w s0 s1 s2 r t) := rfl

theorem pay62_eq (io : IVec S1024x1024 32) (w : FVec Ideal S256x1024 .f32) (s0 s1 s2 : FVec Ideal S1024x256 .bf16) (r : FVec Ideal S1024x256 .f32) :
    k0_pay62 w s0 s1 s2 io r (stVec io w s0 s1 s2 r) = stNext io w s0 s1 s2 (stNext io w s0 s1 s2 r) := rfl

theorem pay63_eq (io : IVec S1024x1024 32) (w : FVec Ideal S256x1024 .f32) (s0 s1 s2 : FVec Ideal S1024x256 .bf16) (r : FVec Ideal S1024x256 .f32) :
    k0_pay63 w io r (stVec io w s0 s1 s2 r) = stCol (stIdx io w (stNext io w s0 s1 s2 r)) := rfl

theorem pay64_eq (i : IVec S1024x1 32) :
    k0_pay64 (stCol i) = stOut i := rfl

theorem pay65_eq (io : IVec S1024x1024 32) (w : FVec Ideal S256x1024 .f32) (r : FVec Ideal S1024x256 .f32) :
    k0_pay65 w io r = stIdx io w r := rfl

theorem pay66_eq (io : IVec S1024x1024 32) (w : FVec Ideal S256x1024 .f32) (s0 s1 s2 : FVec Ideal S1024x256 .bf16) (r : FVec Ideal S1024x256 .f32) :
    k0_pay66 w s0 s1 s2 io r = stD io w s0 s1 s2 r := rfl

theorem pay67_eq (io : IVec S1024x1024 32) (w : FVec Ideal S256x1024 .f32) (s0 s1 s2 : FVec Ideal S1024x256 .bf16) (r : FVec Ideal S1024x256 .f32) :
    k0_pay67 w s0 s1 s2 io r = stCom io w s0 s1 s2 r := rfl

theorem pay68_eq (io : IVec S1024x1024 32) (w : FVec Ideal S256x1024 .f32) (s0 s1 s2 : FVec Ideal S1024x256 .bf16) (r t : FVec Ideal S1024x256 .f32) :
    k0_pay68 w s0 s1 s2 io t r = stT io w s0 s1 s2 r t := rfl

theorem pay69_eq (io : IVec S1024x1024 32) (w : FVec Ideal S256x1024 .f32) (r : FVec Ideal S1024x256 .f32) :
    k0_pay69 w io r = stOut (stIdx io w r) := rfl

end Cert.Proof.Ker
end
-- ==== Proof.KBlocks.lean ====
module

public import proofs.«01_k».proof.Proof.KStep
public import proofs.«01_k».proof.Proof.Gen.KernelIdeal.Frame
public import Idealize.ShloMosaic.Lib.Pipeline.ValueKit

@[expose] public section

/-!
# What the body leaves in its three output blocks

At every point of the grid the block of decoded values and the block of chosen entries are the values of
eight steps; the block of sums is the block before with the eight sums of squares added.
-/

set_option maxRecDepth 16384

noncomputable section

namespace Cert.Proof.Ker
open Cert.KernelIdeal Cert.KernelIdeal.Gen
open Idealize.ShloMosaic Idealize.ShloMosaic.TcCoe Idealize.SL.Sem

variable (m : (ℓ : Loc nD τ sig) → Buf (Elt Ideal) ℓ)

/-- The number of its column at each place of a square block. -/
def kio : IVec S1024x1024 32 := iota .tc S1024x1024 32 [1] iota_S1024x1024_d1_w32

/-- The block of sums after the eight sums of squares are added to `a`. -/
def accAdd (io : IVec S1024x1024 32) (w : FVec Ideal S256x1024 .f32) (s0 s1 s2 : FVec Ideal S1024x256 .bf16)
    (z : FVec Ideal S1024x256 .f32) (a : FVec Ideal S8x128 .f32) : FVec Ideal S8x128 .f32 :=
  let i3 := iota .tc S8x128 32 [1] iota_S8x128_d1_w32
  let i4 := iota .tc S8x128 32 [0] iota_S8x128_d0_w32
  let C := fun q => stCom io w s0 s1 s2 (stR io w s0 s1 s2 z q)
  k0_pay1 i3 i4 (C 4) (C 5) (C 6) (C 7) (k0_pay71 i3 i4 (C 0) (C 1) (C 2)) (k0_pay72 i3 i4)
    (k0_pay73 i3 i4 (C 0) (C 1) (C 2) (C 3)) a

/-- The columns of chosen entries, the last written first. -/
def idxPieces (io : IVec S1024x1024 32) (w : FVec Ideal S256x1024 .f32) (s0 s1 s2 : FVec Ideal S1024x256 .bf16)
    (z : FVec Ideal S1024x256 .f32) : List (View.Piece (Elt Ideal) S1x1024x8 .i32) :=
    [⟨Rect.unit ![0, 0, 7] ![1, 1024, 1] inb_S1x1024x8_S1x1024x1_0_0_7, stOut (stIdx io w (stR io w s0 s1 s2 z 7))⟩,
     ⟨Rect.unit ![0, 0, 6] ![1, 1024, 1] inb_S1x1024x8_S1x1024x1_0_0_6, stOut (stIdx io w (stR io w s0 s1 s2 z 6))⟩,
     ⟨Rect.unit ![0, 0, 5] ![1, 1024, 1] inb_S1x1024x8_S1x1024x1_0_0_5, stOut (stIdx io w (stR io w s0 s1 s2 z 5))⟩,
     ⟨Rect.unit ![0, 0, 4] ![1, 1024, 1] inb_S1x1024x8_S1x1024x1_0_0_4, stOut (stIdx io w (stR io w s0 s1 s2 z 4))⟩,
     ⟨Rect.unit ![0, 0, 3] ![1, 1024, 1] inb_S1x1024x8_S1x1024x1_0_0_3, stOut (stIdx io w (stR io w s0 s1 s2 z 3))⟩,
     ⟨Rect.unit ![0, 0, 2] ![1, 1024, 1] inb_S1x1024x8_S1x1024x1_0_0_2, stOut (stIdx io w (stR io w s0 s1 s2 z 2))⟩,
     ⟨Rect.unit ![0, 0, 1] ![1, 1024, 1] inb_S1x1024x8_S1x1024x1_0_0_1, stOut (stIdx io w (stR io w s0 s1 s2 z 1))⟩,
     ⟨Rect.unit ![0, 0, 0] ![1, 1024, 1] inb_S1x1024x8_S1x1024x1_0_0_0, stOut (stIdx io w (stR io w s0 s1 s2 z 0))⟩]

/-- At every point the decoded block is the decoder applied to the total of eight steps. -/
theorem dec_at (c : Dev nD) (t : Fin cfg0.N) (y) :
    (outsAt0 m c t.val t.isLt).1 y = k0_pay70 (stS kio (k0_pay4 (iblk m c 6 t)) (k0_pay5 (iblk m c 7 t)) (k0_pay6 (iblk m c 8 t)) (k0_pay7 (iblk m c 9 t))
      (k0_pay3 (iblk m c 0 t) (iblk m c 1 t) (iblk m c 2 t)) 8) (iblk m c 3 t) (iblk m c 4 t) y := by
  by_cases h : t.val % 8 = 0
  on_goal 1 => rw [outsAt0_A m c t h]
  on_goal 2 => rw [outsAt0_B m c t h]
  all_goals
    generalize iblk m c 0 t = x0
    generalize iblk m c 1 t = x1
    generalize iblk m c 2 t = x2
    generalize iblk m c 3 t = x3
    generalize iblk m c 4 t = x4
    generalize iblk m c 5 t = x5
    generalize iblk m c 6 t = x6
    generalize iblk m c 7 t = x7
    generalize iblk m c 8 t = x8
    generalize iblk m c 9 t = x9
    frame_out
    simp only [pay9_eq, pay10_eq, pay11_eq, pay12_eq, pay13_eq, pay14_eq, pay15_eq, pay16_eq, pay17_eq, pay18_eq, pay19_eq,
    pay20_eq, pay21_eq, pay22_eq, pay23_eq, pay24_eq, pay25_eq, pay26_eq, pay27_eq, pay28_eq, pay29_eq, pay30_eq,
    pay31_eq, pay32_eq, pay33_eq, pay34_eq, pay35_eq, pay36_eq, pay37_eq, pay38_eq, pay39_eq, pay40_eq, pay41_eq,
    pay42_eq, pay43_eq, pay44_eq, pay45_eq, pay46_eq, pay47_eq, pay48_eq, pay49_eq, pay50_eq, pay51_eq, pay52_eq,
    pay53_eq, pay54_eq, pay55_eq, pay56_eq, pay57_eq, pay58_eq, pay59_eq, pay60_eq, pay61_eq, pay62_eq, pay63_eq,
    pay64_eq, pay65_eq, pay66_eq, pay67_eq, pay68_eq, pay69_eq]
    rfl

/-- At every point the block of chosen entries is made of the eight columns. -/
theorem idx_at (c : Dev nD) (t : Fin cfg0.N) (y) :
    (outsAt0 m c t.val t.isLt).2.1 y = View.canon (idxPieces kio (k0_pay4 (iblk m c 6 t)) (k0_pay5 (iblk m c 7 t)) (k0_pay6 (iblk m c 8 t)) (k0_pay7 (iblk m c 9 t))
      (k0_pay3 (iblk m c 0 t) (iblk m c 1 t) (iblk m c 2 t))) y := by
  by_cases h : t.val % 8 = 0
  on_goal 1 => rw [outsAt0_A m c t h]
  on_goal 2 => rw [outsAt0_B m c t h]
  all_goals
    generalize iblk m c 0 t = x0
    generalize iblk m c 1 t = x1
    generalize iblk m c 2 t = x2
    generalize iblk m c 3 t = x3
    generalize iblk m c 4 t = x4
    generalize iblk m c 5 t = x5
    generalize iblk m c 6 t = x6
    generalize iblk m c 7 t = x7
    generalize iblk m c 8 t = x8
    generalize iblk m c 9 t = x9
    frame_out
    simp only [pay9_eq, pay10_eq, pay11_eq, pay12_eq, pay13_eq, pay14_eq, pay15_eq, pay16_eq, pay17_eq, pay18_eq, pay19_eq,
    pay20_eq, pay21_eq, pay22_eq, pay23_eq, pay24_eq, pay25_eq, pay26_eq, pay27_eq, pay28_eq, pay29_eq, pay30_eq,
    pay31_eq, pay32_eq, pay33_eq, pay34_eq, pay35_eq, pay36_eq, pay37_eq, pay38_eq, pay39_eq, pay40_eq, pay41_eq,
    pay42_eq, pay43_eq, pay44_eq, pay45_eq, pay46_eq, pay47_eq, pay48_eq, pay49_eq, pay50_eq, pay51_eq, pay52_eq,
    pay53_eq, pay54_eq, pay55_eq, pay56_eq, pay57_eq, pay58_eq, pay59_eq, pay60_eq, pay61_eq, pay62_eq, pay63_eq,
    pay64_eq, pay65_eq, pay66_eq, pay67_eq, pay68_eq, pay69_eq]
    rfl

/-- At every point the eight sums of squares are added to the block of the point before, or at a first point to the block that holds the sum of the Gram squares. -/
theorem acc_at (c : Dev nD) (t : Fin cfg0.N) (y) :
    (outsAt0 m c t.val t.isLt).2.2 y = accAdd kio (k0_pay4 (iblk m c 6 t)) (k0_pay5 (iblk m c 7 t)) (k0_pay6 (iblk m c 8 t)) (k0_pay7 (iblk m c 9 t))
      (k0_pay3 (iblk m c 0 t) (iblk m c 1 t) (iblk m c 2 t))
      (if t.val % 8 = 0 then k0_pay2 (iblk m c 5 t) (iblk m c 6 t)
       else (outsAt0 m c (t.val - 1) (Nat.lt_of_le_of_lt (Nat.sub_le _ _) t.isLt)).2.2) y := by
  by_cases h : t.val % 8 = 0
  on_goal 1 => rw [outsAt0_A m c t h, if_pos h]
  on_goal 2 => rw [outsAt0_B m c t h, if_neg h]
  all_goals
    generalize iblk m c 0 t = x0
    generalize iblk m c 1 t = x1
    generalize iblk m c 2 t = x2
    generalize iblk m c 3 t = x3
    generalize iblk m c 4 t = x4
    generalize iblk m c 5 t = x5
    generalize iblk m c 6 t = x6
    generalize iblk m c 7 t = x7
    generalize iblk m c 8 t = x8
    generalize iblk m c 9 t = x9
    frame_out
    simp only [pay9_eq, pay10_eq, pay11_eq, pay12_eq, pay13_eq, pay14_eq, pay15_eq, pay16_eq, pay17_eq, pay18_eq, pay19_eq,
    pay20_eq, pay21_eq, pay22_eq, pay23_eq, pay24_eq, pay25_eq, pay26_eq, pay27_eq, pay28_eq, pay29_eq, pay30_eq,
    pay31_eq, pay32_eq, pay33_eq, pay34_eq, pay35_eq, pay36_eq, pay37_eq, pay38_eq, pay39_eq, pay40_eq, pay41_eq,
    pay42_eq, pay43_eq, pay44_eq, pay45_eq, pay46_eq, pay47_eq, pay48_eq, pay49_eq, pay50_eq, pay51_eq, pay52_eq,
    pay53_eq, pay54_eq, pay55_eq, pay56_eq, pay57_eq, pay58_eq, pay59_eq, pay60_eq, pay61_eq, pay62_eq, pay63_eq,
    pay64_eq, pay65_eq, pay66_eq, pay67_eq, pay68_eq, pay69_eq]
    rfl

end Cert.Proof.Ker
end
-- ==== Proof.Spec.lean ====
module

public import Idealize.ShloMosaic.Lib.Pointwise
public import Idealize.ShloMosaic.Lib.Pipeline.ValueKit

@[expose] public section

/-!
# The quantiser on one row

The mathematics of one residual row over the extended reals: its scaling, its similarities to the entries of
the codebook, the first entry of the largest similarity, and eight steps of the recursion.
-/

set_option maxRecDepth 16384

noncomputable section

namespace Cert.Proof.Spec
open Idealize.ShloMosaic

/-- The number added to a norm before the division. -/
def eps : EReal := Ideal.ofBits .f32 0x2B8CBCCC#32

/-- A row divided by its norm. -/
def scaled (r : Fin 256 → EReal) (d : Fin 256) : EReal := Ideal.div (r d) (Ideal.sqrt (∑ x, r x * r x) + eps)

/-- The similarities of a row to the entries of the codebook. -/
def sim (cb : Fin 1024 → Fin 256 → EReal) (r : Fin 256 → EReal) (k : Fin 1024) : EReal := ∑ d, scaled r d * cb k d

/-- `k` is the first place at which `s` is largest. -/
def IsFirst (s : Fin 1024 → EReal) (k : Fin 1024) : Prop := (∀ j, s j ≤ s k) ∧ ∀ j, j < k → s j < s k

/-- There is a first largest place. -/
theorem exists_first (s : Fin 1024 → EReal) : ∃ k, IsFirst s k := by
  have hne : {k : Fin 1024 | ∀ j, s j ≤ s k}.Nonempty := Finite.exists_max s
  have hm := WellFounded.min_mem (wellFounded_lt (α := Fin 1024)) _ hne
  refine ⟨_, hm, fun j hj => ?_⟩
  by_contra hc
  have hmem : j ∈ {k : Fin 1024 | ∀ j, s j ≤ s k} := fun i => le_trans (hm i) (not_lt.mp hc)
  exact WellFounded.not_lt_min (wellFounded_lt (α := Fin 1024)) _ hmem hj

/-- The first place at which `s` is largest. -/
def first (s : Fin 1024 → EReal) : Fin 1024 := Classical.choose (exists_first s)

/-- `first s` is the first largest place. -/
theorem first_spec (s : Fin 1024 → EReal) : IsFirst s (first s) := Classical.choose_spec (exists_first s)

/-- There is no other first largest place. -/
theorem first_unique {s : Fin 1024 → EReal} {k : Fin 1024} (h : IsFirst s k) : first s = k := by
  rcases lt_trichotomy (first s) k with hl | he | hg
  · exact absurd (h.2 _ hl) (not_lt.mpr ((first_spec s).1 k))
  · exact he
  · exact absurd ((first_spec s).2 _ hg) (not_lt.mpr (h.1 _))

/-- The fold of the maximum from the bottom is the largest value. -/
theorem fold_max (s : Fin 1024 → EReal) : Finset.univ.fold max ⊥ s = s (first s) := by
  refine le_antisymm (Finset.fold_max_le _ |>.mpr ⟨bot_le, fun x _ => (first_spec s).1 x⟩) ?_
  exact Finset.le_fold_max _ |>.mpr (Or.inr ⟨first s, Finset.mem_univ _, le_rfl⟩)

/-- A word of a small number read as a signed number is that number. -/
theorem toInt_small (n : Nat) (h : n < 2048) : (BitVec.ofNat 32 n).toInt = (n : Int) := by
  rw [BitVec.toInt_eq_toNat_cond]
  have : (BitVec.ofNat 32 n).toNat = n := by rw [BitVec.toNat_ofNat]; omega
  rw [this]; split <;> omega

/-- The signed minimum of words is the minimum of the signed numbers. -/
theorem minsi_toInt (x y : BitVec 32) : (IntOp.minsi x y).toInt = min x.toInt y.toInt := by
  unfold IntOp.minsi
  by_cases h : x.toInt < y.toInt
  · rw [if_pos (BitVec.slt_iff_toInt_lt.mpr h), min_eq_left h.le]
  · rw [if_neg (fun hc => h (BitVec.slt_iff_toInt_lt.mp hc)), min_eq_right (not_lt.mp h)]

/-- The least column that holds the largest value, taken by a fold of the signed minimum, is the first
    largest place. -/
theorem fold_min (s : Fin 1024 → EReal) (M : EReal) (hM : M = s (first s)) :
    Finset.univ.fold IntOp.minsi (2147483647#32) (fun x => if s x = M then BitVec.ofNat 32 x.val else 1024#32)
      = BitVec.ofNat 32 (first s).val := by
  have hb : (2147483647#32).toInt = 2147483647 := by decide
  have h4 : (1024#32).toInt = 1024 := by decide
  have hf := (first s).isLt
  have key := Finset.fold_hom (s := (Finset.univ : Finset (Fin 1024))) (op := IntOp.minsi) (op' := min) (m := BitVec.toInt)
    (b := 2147483647#32) (f := fun x => if s x = M then BitVec.ofNat 32 x.val else 1024#32) minsi_toInt
  apply BitVec.eq_of_toInt_eq
  rw [hb] at key
  rw [← key, toInt_small (first s).val (by omega)]
  refine le_antisymm ?_ ?_
  · refine (Finset.fold_min_le _).mpr (Or.inr ⟨first s, Finset.mem_univ _, ?_⟩)
    rw [if_pos hM.symm, toInt_small (first s).val (by omega)]
  · refine (Finset.le_fold_min _).mpr ⟨by omega, fun x _ => ?_⟩
    have hx' := x.isLt
    split
    · rename_i hx
      rw [toInt_small _ (by omega)]
      by_contra hc
      have hlt : x < first s := by
        rw [Fin.lt_def]; omega
      exact absurd ((first_spec s).2 x hlt) (by rw [hx, hM]; exact lt_irrefl _)
    · rw [h4]; omega

/-- The residual row after `q` steps from `z`. -/
def resid (cb : Fin 1024 → Fin 256 → EReal) (z : Fin 256 → EReal) : Nat → Fin 256 → EReal
  | 0 => z
  | q + 1 => fun d => resid cb z q d - cb (first (sim cb (resid cb z q))) d

/-- The entry that step `q` chooses. -/
def pick (cb : Fin 1024 → Fin 256 → EReal) (z : Fin 256 → EReal) (q : Nat) : Fin 1024 := first (sim cb (resid cb z q))

/-- The difference of the chosen entry and the residual at step `q`. -/
def diff (cb : Fin 1024 → Fin 256 → EReal) (z : Fin 256 → EReal) (q : Nat) (d : Fin 256) : EReal :=
  cb (pick cb z q) d - resid cb z q d

/-- The running total after `q` steps. -/
def total (cb : Fin 1024 → Fin 256 → EReal) (z : Fin 256 → EReal) : Nat → Fin 256 → EReal
  | 0 => fun _ => 0
  | q + 1 => fun d => total cb z q d + (resid cb z q d + diff cb z q d)

end Cert.Proof.Spec
end
-- ==== Proof.KPoint.lean ====
module

public import proofs.«01_k».proof.Proof.KBlocks
public import proofs.«01_k».proof.Proof.Spec
public import Idealize.ShloMosaic.Lib.Pointwise

@[expose] public section

/-!
# The kernel's step read at one row

Each value of a step, read at a row of its block, is the value of the quantiser on that row: where the three
parts of the codebook are the codebook itself, zero and zero.
-/

set_option maxRecDepth 16384

noncomputable section

namespace Cert.Proof.Ker
open Cert.KernelIdeal Cert.KernelIdeal.Gen
open Idealize.ShloMosaic Idealize.ShloMosaic.TcCoe Idealize.SL.Sem
open Cert.Proof

/-- A row of a block. -/
def rowOf (r : FVec Ideal S1024x256 .f32) (a : Fin 1024) (d : Fin 256) : EReal := r (ix2 a d)

/-- The codebook that a transposed array holds. -/
def cbOf (w : FVec Ideal S256x1024 .f32) (k : Fin 1024) (d : Fin 256) : EReal := w (ix2 d k)

/-- The scaled row. -/
theorem stRn_at (r : FVec Ideal S1024x256 .f32) (a : Fin 1024) (d : Fin 256) :
    stRn r (ix2 a d) = Spec.scaled (rowOf r a) d := by
  pointwise [stRn]
  rfl

/-- The similarities of a row. -/
theorem stSim_at (w : FVec Ideal S256x1024 .f32) (r : FVec Ideal S1024x256 .f32) (a k : Fin 1024) :
    stSim w r (ix2 a k) = Spec.sim (cbOf w) (rowOf r a) k := by
  pointwise [stSim, stRn_at]
  rfl

/-- The pattern of the fold's first value is the bottom. -/
theorem bot_pattern : Ideal.ofBits .f32 0xFF800000#32 = (⊥ : EReal) := by
  simp [Ideal.ofBits, Ideal.ieee]

/-- The chosen entry of a row. -/
theorem stIdx_at (w : FVec Ideal S256x1024 .f32) (r : FVec Ideal S1024x256 .f32) (a : Fin 1024) :
    stIdx kio w r (ix2 a 0) = BitVec.ofNat 32 (Spec.first (Spec.sim (cbOf w) (rowOf r a))).val := by
  pointwise [stIdx, stPick, stEq, kio, stSim_at]
  exact Spec.fold_min _ _ (by rw [bot_pattern]; exact Spec.fold_max _)

/-- A place of the rows of zeros and a one. -/
theorem hot_at (x k : Fin 1024) :
    (FloatOps.sitofp (F := Ideal) FTy.f32 (BitVec.setWidth 32 (IntOp.cmpi CmpIPredicate.eq (BitVec.ofNat 32 x.val) (BitVec.ofNat 32 k.val))) : EReal)
      = if x = k then 1 else 0 := by
  have hx := x.isLt
  have hk := k.isLt
  have he : BitVec.ofNat 32 x.val = BitVec.ofNat 32 k.val ↔ x = k := by
    rw [Fin.ext_iff]
    constructor
    · intro h
      have := congrArg BitVec.toNat h
      simp only [BitVec.toNat_ofNat] at this
      omega
    · intro h; rw [h]
  show (((BitVec.setWidth 32 (IntOp.cmpi CmpIPredicate.eq (BitVec.ofNat 32 x.val) (BitVec.ofNat 32 k.val))).toInt : ℝ) : EReal) = _
  by_cases h : x = k
  · rw [if_pos h, h, show IntOp.cmpi CmpIPredicate.eq (BitVec.ofNat 32 k.val) (BitVec.ofNat 32 k.val) = 1#1 by simp [IntOp.cmpi],
      show (BitVec.setWidth 32 (1#1)).toInt = 1 by decide]
    simp
  · rw [if_neg h, show IntOp.cmpi CmpIPredicate.eq (BitVec.ofNat 32 x.val) (BitVec.ofNat 32 k.val) = 0#1 by
        rw [IntOp.cmpi]; simp only [beq_eq_false_iff_ne.mpr (fun hc => h (he.mp hc))]; rfl,
      show (BitVec.setWidth 32 (0#1)).toInt = 0 by decide]
    simp

/-- The rows taken from one part of the codebook. -/
theorem stRows_at (s : FVec Ideal S1024x256 .bf16) (i : IVec S1024x1 32) (a k : Fin 1024) (d : Fin 256)
    (h : i (ix2 a 0) = BitVec.ofNat 32 k.val) : stRows kio s i (ix2 a d) = s (ix2 k d) := by
  pointwise [stRows, stHot, kio]
  rw [h]
  simp only [hot_at]
  show (∑ x : Fin 1024, (if x = k then (1 : EReal) else 0) * s (ix2 x d)) = s (ix2 k d)
  simp [ite_mul]

variable (w : FVec Ideal S256x1024 .f32) (s0 s1 s2 : FVec Ideal S1024x256 .bf16)

/-- The three parts of the codebook are the codebook, zero and zero. -/
structure Parts : Prop where
  fst : ∀ k d, s0 (ix2 k d) = w (ix2 d k)
  snd : ∀ k d, s1 (ix2 k d) = (0 : EReal)
  thd : ∀ k d, s2 (ix2 k d) = (0 : EReal)

variable {w s0 s1 s2}

/-- The chosen codebook row. -/
theorem stVec_at (h : Parts w s0 s1 s2) (r : FVec Ideal S1024x256 .f32) (a : Fin 1024) (d : Fin 256) :
    stVec kio w s0 s1 s2 r (ix2 a d) = cbOf w (Spec.first (Spec.sim (cbOf w) (rowOf r a))) d := by
  show (stRows kio s0 (stIdx kio w r) (ix2 a d) + stRows kio s1 (stIdx kio w r) (ix2 a d) : EReal)
    + stRows kio s2 (stIdx kio w r) (ix2 a d) = _
  rw [stRows_at _ _ _ _ _ (stIdx_at w r a), stRows_at _ _ _ _ _ (stIdx_at w r a), stRows_at _ _ _ _ _ (stIdx_at w r a),
    h.fst, h.snd, h.thd]
  show (cbOf w _ d + 0 + 0 : EReal) = _
  rw [add_zero, add_zero]

/-- The residual after `q` steps, at a row. -/
theorem stR_at (h : Parts w s0 s1 s2) (z : FVec Ideal S1024x256 .f32) (a : Fin 1024) :
    ∀ q, rowOf (stR kio w s0 s1 s2 z q) a = Spec.resid (cbOf w) (rowOf z a) q
  | 0 => rfl
  | q + 1 => by
    funext d
    show (rowOf (stR kio w s0 s1 s2 z q) a d - stVec kio w s0 s1 s2 (stR kio w s0 s1 s2 z q) (ix2 a d) : EReal) = _
    rw [stVec_at h, stR_at h z a q]
    rfl

/-- The entry that step `q` chooses, at a row. -/
theorem stIdx_step (h : Parts w s0 s1 s2) (z : FVec Ideal S1024x256 .f32) (a : Fin 1024) (q : Nat) :
    stIdx kio w (stR kio w s0 s1 s2 z q) (ix2 a 0) = BitVec.ofNat 32 (Spec.pick (cbOf w) (rowOf z a) q).val := by
  rw [stIdx_at, stR_at h]; rfl

/-- The difference at step `q`, at a row. -/
theorem stD_at (h : Parts w s0 s1 s2) (z : FVec Ideal S1024x256 .f32) (a : Fin 1024) (d : Fin 256) (q : Nat) :
    stD kio w s0 s1 s2 (stR kio w s0 s1 s2 z q) (ix2 a d) = Spec.diff (cbOf w) (rowOf z a) q d := by
  show (stVec kio w s0 s1 s2 (stR kio w s0 s1 s2 z q) (ix2 a d) - rowOf (stR kio w s0 s1 s2 z q) a d : EReal) = _
  rw [stVec_at h, stR_at h]
  rfl

/-- The running total after `q` steps, at a row. -/
theorem stS_at (h : Parts w s0 s1 s2) (z : FVec Ideal S1024x256 .f32) (a : Fin 1024) (d : Fin 256) :
    ∀ q, stS kio w s0 s1 s2 z q (ix2 a d) = Spec.total (cbOf w) (rowOf z a) q d
  | 0 => Ideal.ofBits_zero_f32
  | q + 1 => by
    show (stS kio w s0 s1 s2 z q (ix2 a d) + (rowOf (stR kio w s0 s1 s2 z q) a d
      + stD kio w s0 s1 s2 (stR kio w s0 s1 s2 z q) (ix2 a d)) : EReal) = _
    rw [stS_at h z a d q, stD_at h, stR_at h]
    rfl

/-- The sum of squares of step `q` over the block. -/
theorem stCom_at (h : Parts w s0 s1 s2) (z : FVec Ideal S1024x256 .f32) (q : Nat) :
    stCom kio w s0 s1 s2 (stR kio w s0 s1 s2 z q)
      = ∑ a, ∑ d, Spec.diff (cbOf w) (rowOf z a) q d * Spec.diff (cbOf w) (rowOf z a) q d := by
  pointwise [stCom, stSq, stD_at h]

end Cert.Proof.Ker
end
-- ==== Proof.Norm.lean ====
module

public import proofs.«01_k».proof.Proof.Spec

@[expose] public section

/-!
# The scaled rows are real

A row divided by its norm is real in every entry, whatever the row holds: where the norm is infinite the
quotient is zero. So the difference of a scaled row and itself is zero.
-/

set_option maxRecDepth 16384

noncomputable section

namespace Cert.Proof.Spec
open Idealize.ShloMosaic

/-- The number added to a norm is a positive real number. -/
theorem eps_real : ∃ e : ℝ, eps = (e : EReal) ∧ 0 < e := by
  refine ⟨(2 ^ 23 + 834764 : ℕ) * (2 : ℝ) ^ (-63 : ℤ), ?_, by positivity⟩
  simp [eps, Ideal.ofBits, Ideal.ieee]

/-- A square is not negative. -/
theorem sq_nonneg' (a : EReal) : 0 ≤ a * a := by
  induction a with
  | bot => simp
  | top => simp
  | coe r => exact_mod_cast mul_self_nonneg r

/-- A value whose square is below infinity is real. -/
theorem real_of_sq {a : EReal} (h : a * a < ⊤) : ∃ r : ℝ, a = r := by
  induction a with
  | bot => simp at h
  | top => simp at h
  | coe r => exact ⟨r, rfl⟩

/-- Every entry of a scaled row is real. -/
theorem scaled_real (r : Fin 256 → EReal) (d : Fin 256) : ∃ x : ℝ, scaled r d = x := by
  obtain ⟨e, he, hpos⟩ := eps_real
  have hle : r d * r d ≤ ∑ x, r x * r x :=
    Finset.single_le_sum (f := fun x => r x * r x) (fun x _ => sq_nonneg' _) (Finset.mem_univ d)
  have h0 : (0 : EReal) ≤ ∑ x, r x * r x := Finset.sum_nonneg fun x _ => sq_nonneg' _
  unfold scaled
  generalize (∑ x, r x * r x) = S at hle h0
  rw [he]
  induction S with
  | bot => simp at h0
  | top =>
    refine ⟨0, ?_⟩
    show Ideal.div (r d) ((⊤ : EReal) + (e : EReal)) = _
    rw [EReal.top_add_coe, Ideal.div, if_neg EReal.top_ne_zero, EReal.inv_top, mul_zero, EReal.coe_zero]
  | coe s =>
    obtain ⟨x, hx⟩ := real_of_sq (lt_of_le_of_lt hle (EReal.coe_lt_top s))
    have hs : 0 ≤ s := by exact_mod_cast h0
    refine ⟨x * (Real.sqrt s + e)⁻¹, ?_⟩
    have hq : Ideal.sqrt (s : EReal) = ((Real.sqrt s : ℝ) : EReal) := by
      show (if s < 0 then (⊥ : EReal) else (Real.sqrt s : EReal)) = _
      rw [if_neg (not_lt.mpr hs)]
    have hp : 0 < Real.sqrt s + e := add_pos_of_nonneg_of_pos (Real.sqrt_nonneg s) hpos
    rw [hq, ← EReal.coe_add, Ideal.div, if_neg (by exact_mod_cast hp.ne'), hx, ← EReal.coe_inv, ← EReal.coe_mul]

/-- A scaled row less itself is zero. -/
theorem scaled_sub (r : Fin 256 → EReal) (d : Fin 256) : scaled r d - scaled r d = 0 := by
  obtain ⟨x, hx⟩ := scaled_real r d
  rw [hx, ← EReal.coe_sub, sub_self, EReal.coe_zero]

end Cert.Proof.Spec
end
-- ==== Proof.KHost.lean ====
module

public import proofs.«01_k».proof.Proof.KPoint
public import proofs.«01_k».proof.Proof.Norm
public import Idealize.ShloMosaic.Lib.StableHlo.RunRead

@[expose] public section

/-!
# The arrays that the kernel's blocks are cut from

What the host leaves in each array before the grid runs, at an index, by the arguments.
-/

set_option maxRecDepth 16384

noncomputable section

namespace Cert.Proof.Ker
open Cert.KernelIdeal Cert.KernelIdeal.Gen
open Idealize.ShloMosaic Idealize.ShloMosaic.TcCoe Idealize.SL.Sem
open Cert.Proof

variable (m : (k : Loc nD τ sig) → Buf (Elt Ideal) k) (c : Dev nD)

/-- The input, as the launch holds it. -/
abbrev inX : FVec Ideal S4x64x2048 .f32 := m ((c : Thread nD τ).loc main_arg0)
/-- The encoder's weights. -/
abbrev inWe : FVec Ideal S256x64 .f32 := m ((c : Thread nD τ).loc main_arg1)
/-- The encoder's bias. -/
abbrev inBe : FVec Ideal S256 .f32 := m ((c : Thread nD τ).loc main_arg2)
/-- The decoder's weights. -/
abbrev inWd : FVec Ideal S64x256 .f32 := m ((c : Thread nD τ).loc main_arg3)
/-- The decoder's bias. -/
abbrev inBd : FVec Ideal S64 .f32 := m ((c : Thread nD τ).loc main_arg4)
/-- The codebook. -/
abbrev inCb : FVec Ideal S1024x256 .f32 := m ((c : Thread nD τ).loc main_arg5)

/-- The scaled codebook. -/
def cbn (k : Fin 1024) (d : Fin 256) : EReal := Spec.scaled (fun x => inCb m c (ix2 k x)) d

/-- The encoder's row. -/
def enc (b : Fin 4) (t : Fin 2048) (d : Fin 256) : EReal :=
  (∑ i, inX m c (ix3 b i t) * inWe m c (ix2 d i) : EReal) + inBe m c (ix1 d)

/-- The transposed input. -/
theorem V14 (b : Fin 4) (t : Fin 2048) (i : Fin 64) : V m c main_v14 (ix3 b t i) = inX m c (ix3 b i t) := by
  after_reads_simp [V, V0, hostOps0, hostOps0_1]
  pointwise

/-- The transposed weights of the encoder. -/
theorem V15 (i : Fin 64) (d : Fin 256) : V m c main_v15 (ix2 i d) = inWe m c (ix2 d i) := by
  after_reads_simp [V, V0, hostOps0, hostOps0_1]
  pointwise

/-- The encoder's bias as a row. -/
theorem V16 (d : Fin 256) : V m c main_v16 (ix2 0 d) = inBe m c (ix1 d) := by
  after_reads_simp [V, V0, hostOps0, hostOps0_1]
  pointwise

/-- The transposed weights of the decoder. -/
theorem V17 (d : Fin 256) (i : Fin 64) : V m c main_v17 (ix2 d i) = inWd m c (ix2 i d) := by
  after_reads_simp [V, V0, hostOps0, hostOps0_1]
  pointwise

/-- The decoder's bias as a row. -/
theorem V18 (i : Fin 64) : V m c main_v18 (ix2 0 i) = inBd m c (ix1 i) := by
  after_reads_simp [V, V0, hostOps0, hostOps0_1]
  pointwise

/-- The host's value of the scaled codebook. -/
def cbnArr (x : FVec Ideal S1024x256 .f32) : FVec Ideal S1024x256 .f32 :=
  Host.divf x (broadcastInDim S1024x256 ![0, 1] bcast_S1024x1_S1024x256_0_1
    (addf (Host.sqrt (broadcastInDim S1024x1 ![0] bcast_S1024_S1024x1_0
      (Host.reduceAdd (mulf x x) (constant S_ FTy.f32 0#32) reducesTo_S1024x256_S1024_d1 h_S_)))
      (broadcastInDim S1024x1 ![] bcast_S_S1024x1 (constant S_ FTy.f32 0x2B8CBCCC#32))))

/-- The host's scaled codebook at an index. -/
theorem cbnArr_at (x : FVec Ideal S1024x256 .f32) (k : Fin 1024) (d : Fin 256) :
    cbnArr x (ix2 k d) = Spec.scaled (fun e => x (ix2 k e)) d := by
  pointwise [cbnArr]
  rfl

/-- The higher part of a value: the value rounded, widened and rounded again. -/
def hiPart (y : FVec Ideal S1024x256 .f32) : FVec Ideal S1024x256 .bf16 :=
  truncf .bf16 (extf .f32 (truncf .bf16 y bitsLt_bf16_f32) bitsLt_bf16_f32) bitsLt_bf16_f32

/-- What is left of a value beside its higher part. -/
def loPart (y : FVec Ideal S1024x256 .f32) : FVec Ideal S1024x256 .f32 :=
  subf y (extf .f32 (truncf .bf16 y bitsLt_bf16_f32) bitsLt_bf16_f32)

/-- The array of the scaled codebook. -/
theorem V4_arr : V m c main_v4 = cbnArr (inCb m c) := by
  after_reads_simp [V, V0, hostOps0, hostOps0_1]
  simp only [StableHlo.TRef.ofBuf_toBuf]
  rfl

/-- The array of the transposed scaled codebook. -/
theorem V19_arr : V m c main_v19 = transpose S256x1024 [1, 0] (cbnArr (inCb m c)) transposes_S1024x256_S256x1024_1_0 := by
  after_reads_simp [V, V0, hostOps0, hostOps0_1]
  simp only [StableHlo.TRef.ofBuf_toBuf]
  rfl

/-- The array of the first part. -/
theorem V11_arr : V m c main_v11 = hiPart (cbnArr (inCb m c)) := by
  after_reads_simp [V, V0, hostOps0, hostOps0_1]
  simp only [StableHlo.TRef.ofBuf_toBuf]
  rfl

/-- The array of the second part. -/
theorem V12_arr : V m c main_v12 = hiPart (loPart (cbnArr (inCb m c))) := by
  after_reads_simp [V, V0, hostOps0, hostOps0_1]
  simp only [StableHlo.TRef.ofBuf_toBuf]
  rfl

/-- The array of the third part. -/
theorem V13_arr : V m c main_v13 = truncf .bf16 (loPart (loPart (cbnArr (inCb m c)))) bitsLt_bf16_f32 := by
  after_reads_simp [V, V0, hostOps0, hostOps0_1]
  simp only [StableHlo.TRef.ofBuf_toBuf]
  rfl

/-- The scaled codebook. -/
theorem V4 (k : Fin 1024) (d : Fin 256) : V m c main_v4 (ix2 k d) = cbn m c k d := by
  rw [V4_arr]
  exact cbnArr_at _ _ _

/-- The transposed scaled codebook. -/
theorem V19 (d : Fin 256) (k : Fin 1024) : V m c main_v19 (ix2 d k) = cbn m c k d := by
  rw [V19_arr]
  pointwise
  exact cbnArr_at _ _ _

/-- The first part of the codebook is the codebook. -/
theorem V11 (k : Fin 1024) (d : Fin 256) : V m c main_v11 (ix2 k d) = cbn m c k d := by
  rw [V11_arr]
  pointwise [hiPart]
  exact cbnArr_at _ _ _

/-- The scaled codebook less itself is zero. -/
theorem cbn_sub (k : Fin 1024) (d : Fin 256) :
    (cbnArr (inCb m c) (ix2 k d) - cbnArr (inCb m c) (ix2 k d) : EReal) = 0 := by
  rw [cbnArr_at]
  exact Spec.scaled_sub _ _

/-- The second part of the codebook is zero. -/
theorem V12 (k : Fin 1024) (d : Fin 256) : V m c main_v12 (ix2 k d) = (0 : EReal) := by
  rw [V12_arr]
  pointwise [hiPart, loPart]
  exact cbn_sub m c k d

/-- The third part of the codebook is zero. -/
theorem V13 (k : Fin 1024) (d : Fin 256) : V m c main_v13 (ix2 k d) = (0 : EReal) := by
  rw [V13_arr]
  pointwise [loPart]
  rw [cbn_sub, sub_zero]

end Cert.Proof.Ker
end
-- ==== Proof.KWin.lean ====
module

public import proofs.«01_k».proof.Proof.KHost

@[expose] public section

/-!
# The blocks that a point of the grid reads

Point `t` reads the rows of its tile from the transposed input, and the whole of every other array.
-/

set_option maxRecDepth 16384

noncomputable section

namespace Cert.Proof.Ker
open Cert.KernelIdeal Cert.KernelIdeal.Gen
open Idealize.ShloMosaic Idealize.ShloMosaic.TcCoe Idealize.SL.Sem
open Cert.Proof

variable (m : (k : Loc nD τ sig) → Buf (Elt Ideal) k) (c : Dev nD)

/-- The batch entry of a point. -/
def ptB (t : Fin cfg0.N) : Fin 4 := ⟨t.val / 2, by
  have h := t.isLt
  have h8 : cfg0.N = 8 := N_0
  omega⟩

/-- The row of the sequence that row `a` of a point's tile is. -/
def ptT (t : Fin cfg0.N) (a : Fin 1024) : Fin 2048 := ⟨t.val % 2 * 1024 + a.val, by have := a.isLt; omega⟩

/-- Where the tiled windows place their blocks. -/
theorem idx_tiled : ∀ t : Fin cfg0.N, win0_0.index t = ![t.val / 2, t.val % 2, 0] ∧
    win0_10.index t = ![t.val / 2, t.val % 2, 0] ∧ win0_11.index t = ![t.val / 2, t.val % 2, 0] :=
  (by decide +kernel : ∀ t : Fin grid0.N, _)

/-- The other windows are at the origin. -/
theorem idx_whole : ∀ t : Fin cfg0.N, win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0]
    ∧ win0_8.index t = ![0, 0] ∧ win0_9.index t = ![0, 0] :=
  (by decide +kernel : ∀ t : Fin grid0.N, _)

/-- The tile of the input. -/
theorem blk0 (t : Fin cfg0.N) (a : Fin 1024) (i : Fin 64) :
    iblk m c 0 t (ix3 0 a i) = inX m c (ix3 (ptB t) i (ptT t a)) := by
  have e : ((cfg0.win 0).blk t).view.emb (ix3 0 a i) = ix3 (ptB t) (ptT t a) i := by
    have h := (idx_tiled t).1
    blk_ext [h]
    · exact Nat.add_zero _
    · rfl
  show V m c main_v14 (((cfg0.win 0).blk t).view.emb (ix3 0 a i)) = _
  rw [e]
  exact V14 m c _ _ _

/-- The weights of the encoder. -/
theorem blk1 (t : Fin cfg0.N) (i : Fin 64) (d : Fin 256) : iblk m c 1 t (ix2 i d) = inWe m c (ix2 d i) := by
  have h := (idx_whole t).1
  have e : ((cfg0.win 1).blk t).view.emb (ix2 i d) = ix2 i d := by
    blk_ext [h]
  show V m c main_v15 (((cfg0.win 1).blk t).view.emb (ix2 i d)) = _
  rw [e]
  exact V15 m c _ _

/-- The bias of the encoder. -/
theorem blk2 (t : Fin cfg0.N) (d : Fin 256) : iblk m c 2 t (ix2 0 d) = inBe m c (ix1 d) := by
  have h := (idx_whole t).2.1
  have e : ((cfg0.win 2).blk t).view.emb (ix2 0 d) = ix2 0 d := by
    blk_ext [h]
  show V m c main_v16 (((cfg0.win 2).blk t).view.emb (ix2 0 d)) = _
  rw [e]
  exact V16 m c _

/-- The weights of the decoder. -/
theorem blk3 (t : Fin cfg0.N) (d : Fin 256) (i : Fin 64) : iblk m c 3 t (ix2 d i) = inWd m c (ix2 i d) := by
  have h := (idx_whole t).2.2.1
  have e : ((cfg0.win 3).blk t).view.emb (ix2 d i) = ix2 d i := by
    blk_ext [h]
  show V m c main_v17 (((cfg0.win 3).blk t).view.emb (ix2 d i)) = _
  rw [e]
  exact V17 m c _ _

/-- The bias of the decoder. -/
theorem blk4 (t : Fin cfg0.N) (i : Fin 64) : iblk m c 4 t (ix2 0 i) = inBd m c (ix1 i) := by
  have h := (idx_whole t).2.2.2.1
  have e : ((cfg0.win 4).blk t).view.emb (ix2 0 i) = ix2 0 i := by
    blk_ext [h]
  show V m c main_v18 (((cfg0.win 4).blk t).view.emb (ix2 0 i)) = _
  rw [e]
  exact V18 m c _

/-- The scaled codebook. -/
theorem blk5 (t : Fin cfg0.N) (k : Fin 1024) (d : Fin 256) : iblk m c 5 t (ix2 k d) = cbn m c k d := by
  have h := (idx_whole t).2.2.2.2.1
  have e : ((cfg0.win 5).blk t).view.emb (ix2 k d) = ix2 k d := by
    blk_ext [h]
  show V m c main_v4 (((cfg0.win 5).blk t).view.emb (ix2 k d)) = _
  rw [e]
  exact V4 m c _ _

/-- The transposed scaled codebook. -/
theorem blk6 (t : Fin cfg0.N) (d : Fin 256) (k : Fin 1024) : iblk m c 6 t (ix2 d k) = cbn m c k d := by
  have h := (idx_whole t).2.2.2.2.2.1
  have e : ((cfg0.win 6).blk t).view.emb (ix2 d k) = ix2 d k := by
    blk_ext [h]
  show V m c main_v19 (((cfg0.win 6).blk t).view.emb (ix2 d k)) = _
  rw [e]
  exact V19 m c _ _

/-- The first part of the codebook. -/
theorem blk7 (t : Fin cfg0.N) (k : Fin 1024) (d : Fin 256) : iblk m c 7 t (ix2 k d) = cbn m c k d := by
  have h := (idx_whole t).2.2.2.2.2.2.1
  have e : ((cfg0.win 7).blk t).view.emb (ix2 k d) = ix2 k d := by
    blk_ext [h]
  show V m c main_v11 (((cfg0.win 7).blk t).view.emb (ix2 k d)) = _
  rw [e]
  exact V11 m c _ _

/-- The second part of the codebook. -/
theorem blk8 (t : Fin cfg0.N) (k : Fin 1024) (d : Fin 256) : iblk m c 8 t (ix2 k d) = (0 : EReal) := by
  have h := (idx_whole t).2.2.2.2.2.2.2.1
  have e : ((cfg0.win 8).blk t).view.emb (ix2 k d) = ix2 k d := by
    blk_ext [h]
  show V m c main_v12 (((cfg0.win 8).blk t).view.emb (ix2 k d)) = _
  rw [e]
  exact V12 m c _ _

/-- The third part of the codebook. -/
theorem blk9 (t : Fin cfg0.N) (k : Fin 1024) (d : Fin 256) : iblk m c 9 t (ix2 k d) = (0 : EReal) := by
  have h := (idx_whole t).2.2.2.2.2.2.2.2
  have e : ((cfg0.win 9).blk t).view.emb (ix2 k d) = ix2 k d := by
    blk_ext [h]
  show V m c main_v13 (((cfg0.win 9).blk t).view.emb (ix2 k d)) = _
  rw [e]
  exact V13 m c _ _

/-- The parts of the codebook that a point reads. -/
theorem parts (t : Fin cfg0.N) :
    Parts (k0_pay4 (iblk m c 6 t)) (k0_pay5 (iblk m c 7 t)) (k0_pay6 (iblk m c 8 t)) (k0_pay7 (iblk m c 9 t)) := by
  refine ⟨fun k d => ?_, fun k d => ?_, fun k d => ?_⟩
  · show k0_pay5 (iblk m c 7 t) (ix2 k d) = k0_pay4 (iblk m c 6 t) (ix2 d k)
    pointwise [k0_pay4, k0_pay5]
    rw [blk6, blk7]
  · pointwise [k0_pay6]
    rw [blk8]
  · pointwise [k0_pay7]
    rw [blk9]

/-- The codebook that a point reads. -/
theorem cb_pt (t : Fin cfg0.N) : cbOf (k0_pay4 (iblk m c 6 t)) = cbn m c := by
  funext k d
  unfold cbOf
  pointwise [k0_pay4]
  rw [blk6]

/-- The rows that a point encodes. -/
theorem row_pt (t : Fin cfg0.N) (a : Fin 1024) :
    rowOf (k0_pay3 (iblk m c 0 t) (iblk m c 1 t) (iblk m c 2 t)) a = enc m c (ptB t) (ptT t a) := by
  funext d
  unfold rowOf enc
  pointwise [k0_pay3]
  simp only [blk0, blk1, blk2]

end Cert.Proof.Ker
end
-- ==== Proof.KOut.lean ====
module

public import proofs.«01_k».proof.Proof.KWin

@[expose] public section

/-!
# The arrays that the grid leaves

Every entry of the three arrays after the grid: the decoded values, the chosen entries and the sums.
-/

set_option maxRecDepth 16384

noncomputable section

namespace Cert.Proof.Ker
open Cert.KernelIdeal Cert.KernelIdeal.Gen
open Idealize.ShloMosaic Idealize.ShloMosaic.TcCoe Idealize.SL.Sem
open Cert.Proof

variable (m : (k : Loc nD τ sig) → Buf (Elt Ideal) k) (c : Dev nD)

/-- The decoded value of a row. -/
def dec (b : Fin 4) (t : Fin 2048) (i : Fin 64) : EReal :=
  (∑ d, Spec.total (cbn m c) (enc m c b t) 8 d * inWd m c (ix2 i d) : EReal) + inBd m c (ix1 i)

/-- The array of the decoded values, rows before columns. -/
def G10 : FVec Ideal S4x2048x64 .f32 := fun j => dec m c (j 0) (j 1) (j 2)

/-- The number of the entry that step `q` chooses for a row. -/
def ent (b : Fin 4) (t : Fin 2048) (q : Nat) : BitVec 32 :=
  BitVec.ofNat 32 (Spec.pick (cbn m c) (enc m c b t) q).val

/-- The array of the chosen entries. -/
def G11 : IVec S4x2048x8 32 := fun j => ent m c (j 0) (j 1) (j 2).val

/-- The decoded block of a point. -/
theorem dec_pt (t : Fin cfg0.N) (a : Fin 1024) (i : Fin 64) :
    (outsAt0 m c t.val t.isLt).1 (ix3 0 a i) = dec m c (ptB t) (ptT t a) i := by
  rw [dec_at]
  pointwise [k0_pay70]
  unfold dec
  have h := parts m c t
  simp only [stS_at h, cb_pt, row_pt, blk3, blk4]

/-- Where a point's block of decoded values lies. -/
theorem emb10 (t : Fin cfg0.N) (a : Fin 1024) (i : Fin 64) :
    ((cfg0.win 10).blk t).view.emb (ix3 0 a i) = ix3 (ptB t) (ptT t a) i := by
  have h := (idx_tiled t).2.1
  blk_ext [h]
  · exact Nat.add_zero _
  · rfl

/-- Where a point's block of chosen entries lies. -/
theorem emb11 (t : Fin cfg0.N) (a : Fin 1024) (q : Fin 8) :
    ((cfg0.win 11).blk t).view.emb (ix3 0 a q) = ix3 (ptB t) (ptT t a) q := by
  have h := (idx_tiled t).2.2
  blk_ext [h]
  · exact Nat.add_zero _
  · rfl

/-- The array of decoded values after the grid. -/
theorem final10 : (dats m 0 c).arrAt 10 (cfgs 0).N = G10 m c := by
  refine (dats m 0 c).arrAt_eq_of_covers 10 _ (by decide +kernel) fun t hf y => ?_
  blk_simp
  rw [after0_10]
  idx_vars y
  obtain rfl : y0 = 0 := Subsingleton.elim _ _
  exact (dec_pt m c t y1 y2).trans (congrArg (G10 m c) (emb10 t y1 y2)).symm

section
variable {w : FVec Ideal S256x1024 .f32} {s0 s1 s2 : FVec Ideal S1024x256 .bf16}

/-- One column of chosen entries at a row. -/
theorem col_at (h : Parts w s0 s1 s2) (z : FVec Ideal S1024x256 .f32) (q : Nat) (x : S1x1024x1.Idx) :
    stOut (stIdx kio w (stR kio w s0 s1 s2 z q)) x = BitVec.ofNat 32 (Spec.pick (cbOf w) (rowOf z (x 1)) q).val := by
  idx_vars x
  pointwise [stOut, stCol, stIdx_step h]

/-- The block of chosen entries at a row and a step. -/
theorem idx_canon (h : Parts w s0 s1 s2) (z : FVec Ideal S1024x256 .f32) (a : Fin 1024) (q : Fin 8) :
    View.canon (idxPieces kio w s0 s1 s2 z) (ix3 0 a q)
      = BitVec.ofNat 32 (Spec.pick (cbOf w) (rowOf z a) q.val).val := by
  unfold idxPieces
  canon_tiles x hx using View.cover_of_tiled_head _ _ _ (by rfl) _
  all_goals
    rw [col_at h]
    have e : x 1 = a := Fin.ext hx1.symm
    have e2 : q.val = _ := hx2
    have hk : ∀ n, n = q.val → BitVec.ofNat 32 (Spec.pick (cbOf w) (rowOf z a) n).val
        = BitVec.ofNat 32 (Spec.pick (cbOf w) (rowOf z a) q.val).val := by
      rintro _ rfl
      rfl
    rw [e]
    exact hk _ (by omega)

end

/-- The block of chosen entries of a point. -/
theorem idx_pt (t : Fin cfg0.N) (a : Fin 1024) (q : Fin 8) :
    (outsAt0 m c t.val t.isLt).2.1 (ix3 0 a q) = ent m c (ptB t) (ptT t a) q.val := by
  rw [idx_at, idx_canon (parts m c t), cb_pt, row_pt]
  rfl

/-- The array of chosen entries after the grid. -/
theorem final11 : (dats m 0 c).arrAt 11 (cfgs 0).N = G11 m c := by
  refine (dats m 0 c).arrAt_eq_of_covers 11 _ (by decide +kernel) fun t hf y => ?_
  blk_simp
  rw [after0_11]
  idx_vars y
  obtain rfl : y0 = 0 := Subsingleton.elim _ _
  exact (idx_pt m c t y1 y2).trans (congrArg (G11 m c) (emb11 t y1 y2)).symm

/-- The block of sums after `C 0`, …, `C 7` are added to it. -/
def addLanes (C : Nat → Ideal .f32) (a : FVec Ideal S8x128 .f32) : FVec Ideal S8x128 .f32 :=
  let i3 := iota .tc S8x128 32 [1] iota_S8x128_d1_w32
  let i4 := iota .tc S8x128 32 [0] iota_S8x128_d0_w32
  k0_pay1 i3 i4 (C 4) (C 5) (C 6) (C 7) (k0_pay71 i3 i4 (C 0) (C 1) (C 2)) (k0_pay72 i3 i4)
    (k0_pay73 i3 i4 (C 0) (C 1) (C 2) (C 3)) a

/-- Lane `q` takes the `q`-th value. -/
theorem addLanes_at (C : Nat → Ideal .f32) (a : FVec Ideal S8x128 .f32) (q : Fin 8) :
    addLanes C a (ix2 0 (Fin.castLE (by omega) q)) = (a (ix2 0 (Fin.castLE (by omega) q)) + C q.val : EReal) := by
  fin_cases q
  all_goals
    pointwise [addLanes, k0_pay1, k0_pay71, k0_pay72, k0_pay73]
    simp [IntOp.andi, IntOp.cmpi, Scalar.select]

/-- Lane 8 takes nothing. -/
theorem addLanes_eight (C : Nat → Ideal .f32) (a : FVec Ideal S8x128 .f32) :
    addLanes C a (ix2 0 8) = a (ix2 0 8) := by
  pointwise [addLanes, k0_pay1, k0_pay71, k0_pay72, k0_pay73]
  simp [IntOp.andi, IntOp.cmpi, Scalar.select]

/-- The sum of squares of a tile's differences at step `q`. -/
def tileSum (t : Fin cfg0.N) (q : Nat) : EReal :=
  ∑ a, ∑ d, Spec.diff (cbn m c) (enc m c (ptB t) (ptT t a)) q d * Spec.diff (cbn m c) (enc m c (ptB t) (ptT t a)) q d

/-- The sum of the squares of the products of the codebook's entries. -/
def gram : EReal :=
  ∑ i : Fin 1024, ∑ j : Fin 1024, (∑ k, cbn m c i k * cbn m c j k : EReal) * (∑ k, cbn m c i k * cbn m c j k : EReal)

/-- The sum of a tile that the body forms. -/
theorem com_pt (t : Fin cfg0.N) (q : Nat) :
    stCom kio (k0_pay4 (iblk m c 6 t)) (k0_pay5 (iblk m c 7 t)) (k0_pay6 (iblk m c 8 t)) (k0_pay7 (iblk m c 9 t))
      (stR kio (k0_pay4 (iblk m c 6 t)) (k0_pay5 (iblk m c 7 t)) (k0_pay6 (iblk m c 8 t)) (k0_pay7 (iblk m c 9 t))
        (k0_pay3 (iblk m c 0 t) (iblk m c 1 t) (iblk m c 2 t)) q) = tileSum m c t q := by
  rw [stCom_at (parts m c t), cb_pt]
  simp only [row_pt]
  rfl

/-- A lane below 8 of the first point's block of sums. -/
theorem init_lane (t : Fin cfg0.N) (q : Fin 8) :
    k0_pay2 (iblk m c 5 t) (iblk m c 6 t) (ix2 0 (Fin.castLE (by omega) q)) = (0 : EReal) := by
  fin_cases q
  all_goals
    pointwise [k0_pay2]
    simp [IntOp.andi, IntOp.cmpi, Scalar.select]

/-- Lane 8 of the first point's block of sums. -/
theorem init_eight (t : Fin cfg0.N) : k0_pay2 (iblk m c 5 t) (iblk m c 6 t) (ix2 0 8) = gram m c := by
  pointwise [k0_pay2]
  simp [IntOp.andi, IntOp.cmpi, Scalar.select, blk5, blk6, gram]

/-- The block of sums of a point, with its tile's sums as the values added. -/
theorem acc_pt (t : Fin cfg0.N) (y : S8x128.Idx) :
    (outsAt0 m c t.val t.isLt).2.2 y = addLanes (fun q => tileSum m c t q)
      (if t.val % 8 = 0 then k0_pay2 (iblk m c 5 t) (iblk m c 6 t)
        else (outsAt0 m c (t.val - 1) (Nat.lt_of_le_of_lt (Nat.sub_le _ _) t.isLt)).2.2) y := by
  rw [acc_at, ← funext (com_pt m c t)]
  rfl

/-- The last point's lane `q` of the block of sums. -/
theorem acc_lane (q : Fin 8) : (outsAt0 m c t0_7.val t0_7.isLt).2.2 (ix2 0 (Fin.castLE (by omega) q))
    = ∑ t : Fin cfg0.N, tileSum m c t q.val := by
  refine (Pipeline.eq_sum_fin_of_reset_step_last
    (fun n h => ((outsAt0 m c n h).2.2 (ix2 0 (Fin.castLE (by omega) q)) : EReal)) 8 0 (fun t => tileSum m c t q.val)
    (fun t h => ?_) (fun t h => ?_) (le_of_eq N_0) t0_7 (by decide)).trans (zero_add _)
  · show _ = (0 + tileSum m c t q.val : EReal)
    rw [acc_pt, addLanes_at, if_pos h, init_lane]
  · rw [acc_pt, addLanes_at, if_neg h]

/-- The last point's lane 8 of the block of sums. -/
theorem acc_eight : (outsAt0 m c t0_7.val t0_7.isLt).2.2 (ix2 0 8) = gram m c := by
  refine (Pipeline.eq_sum_fin_of_reset_step_last
    (fun n h => ((outsAt0 m c n h).2.2 (ix2 0 8) : EReal)) 8 (gram m c) (fun t => (0 : EReal))
    (fun t h => ?_) (fun t h => ?_) (le_of_eq N_0) t0_7 (by decide)).trans ?_
  · rw [acc_pt, addLanes_eight, if_pos h, init_eight, add_zero]
  · rw [acc_pt, addLanes_eight, if_neg h, add_zero]
  · rw [Finset.sum_const_zero, add_zero]

/-- The array of sums after the grid is the last point's block. -/
theorem final12 : (dats m 0 c).arrAt 12 (cfgs 0).N = (outsAt0 m c t0_7.val t0_7.isLt).2.2 := by
  refine (dats m 0 c).arrAt_eq_of_after_last 12 t0_7 (by decide +kernel) _ fun j => ?_
  blk_simp
  rw [after0_12]

end Cert.Proof.Ker
end
-- ==== Proof.KTail.lean ====
module

public import proofs.«01_k».proof.Proof.KOut
public import Idealize.ShloMosaic.Lib.StableHlo.RunRead

@[expose] public section

/-!
# The kernel's results

The three results at the end of the run, at an index, by the arguments.
-/

set_option maxRecDepth 16384

noncomputable section

namespace Cert.Proof.Ker
open Cert.KernelIdeal Cert.KernelIdeal.Gen
open Idealize.ShloMosaic Idealize.ShloMosaic.TcCoe Idealize.SL.Sem
open Cert.Proof

variable (m : (k : Loc nD τ sig) → Buf (Elt Ideal) k) (c : Dev nD)

/-- The contents of core `c`'s arrays after the grid. -/
def VA : Valuation τ sig (Elt Ideal) :=
  Pipeline.withArrays (cfgs 0).spec c (V0 m c) fun w => (dats m 0 c).arrAt w (cfgs 0).N

/-- Different windows have different arrays. -/
theorem arr_inj : Function.Injective (Pipeline.arrRef spec0) := by decide

/-- The decoded values after the grid. -/
theorem VA10 : VA m c (no_index (Proc.devRef .tc main_v20_0)) = G10 m c :=
  (Pipeline.withArrays_arr (cfgs 0).spec arr_inj c (V0 m c) (fun w => (dats m 0 c).arrAt w (cfgs 0).N) 10).trans (final10 m c)

/-- The sums after the grid. -/
theorem VA12 : VA m c (no_index (Proc.devRef .tc main_v20_2)) = (outsAt0 m c t0_7.val t0_7.isLt).2.2 :=
  (Pipeline.withArrays_arr (cfgs 0).spec arr_inj c (V0 m c) (fun w => (dats m 0 c).arrAt w (cfgs 0).N) 12).trans (final12 m c)

/-- The sum over the batch and the sequence is the sum over the grid's tiles. -/
theorem sum_tiles (f : Fin 4 → Fin 2048 → EReal) :
    ∑ t : Fin cfg0.N, ∑ a : Fin 1024, f (ptB t) (ptT t a) = ∑ b, ∑ t, f b t := by
  have hs : ∀ b, ∑ t, f b t = ∑ a : Fin 1024, f b (Fin.castAdd 1024 a) + ∑ a : Fin 1024, f b (Fin.natAdd 1024 a) :=
    fun b => Fin.sum_univ_add (a := 1024) (b := 1024) (f b)
  have he : ∀ (t : Fin 8) (b : Fin 4), t.val = 2 * b.val →
      ∑ a : Fin 1024, f (ptB t) (ptT t a) = ∑ a : Fin 1024, f b (Fin.castAdd 1024 a) := fun t b h =>
    Finset.sum_congr rfl fun a _ => congrArg₂ f (Fin.ext (by show t.val / 2 = b.val; omega))
      (Fin.ext (by show t.val % 2 * 1024 + a.val = a.val; omega))
  have ho : ∀ (t : Fin 8) (b : Fin 4), t.val = 2 * b.val + 1 →
      ∑ a : Fin 1024, f (ptB t) (ptT t a) = ∑ a : Fin 1024, f b (Fin.natAdd 1024 a) := fun t b h =>
    Finset.sum_congr rfl fun a _ => congrArg₂ f (Fin.ext (by show t.val / 2 = b.val; omega))
      (Fin.ext (by show t.val % 2 * 1024 + a.val = 1024 + a.val; omega))
  refine (Fin.sum_univ_eight fun t : Fin 8 => ∑ a : Fin 1024, f (ptB t) (ptT t a)).trans ?_
  rw [he 0 0 rfl, ho 1 0 rfl, he 2 1 rfl, ho 3 1 rfl, he 4 2 rfl, ho 5 2 rfl, he 6 3 rfl, ho 7 3 rfl,
    Fin.sum_univ_four, hs, hs, hs, hs]
  simp only [add_assoc]

/-- The sum of squares of all differences at step `q`. -/
def sumSq (q : Nat) : EReal :=
  ∑ b, ∑ t, ∑ d, Spec.diff (cbn m c) (enc m c b t) q d * Spec.diff (cbn m c) (enc m c b t) q d

/-- The loss of step `q`. -/
def loss (q : Nat) : EReal :=
  Ideal.div (sumSq m c q) (Ideal.ofBits .f32 0x4A000000#32)
    + Ideal.ofBits .f32 0x41200000#32
      * (Ideal.div (gram m c) (Ideal.ofBits .f32 0x49800000#32) - Ideal.ofBits .f32 0x3A800000#32)

/-- The first result: the decoded values, columns before rows. -/
def res0 : FVec Ideal S4x64x2048 .f32 := fun j => dec m c (j 0) (j 2) (j 1)

/-- The third result: the losses. -/
def res2 : FVec Ideal S8 .f32 := fun j => loss m c (j 0).val

/-- The losses that the host forms from the block of sums. -/
def lossOf (a : FVec Ideal S8x128 .f32) : FVec Ideal S8 .f32 :=
  addf (Host.divf (shapeCast S8 (extractStridedSlice S1x8 ![0, 0] a slices_S8x128_S1x8_0_0) shapeCasts_S1x8_S8)
      (broadcastInDim S8 ![] bcast_S_S8 (constant S_ .f32 0x4A000000#32)))
    (broadcastInDim S8 ![] bcast_S_S8 (mulf (constant S_ .f32 0x41200000#32)
      (subf (Host.divf (shapeCast S_ (extractStridedSlice S1x1 ![0, 8] a slices_S8x128_S1x1_0_8) shapeCasts_S1x1_S_)
        (constant S_ .f32 0x49800000#32)) (constant S_ .f32 0x3A800000#32))))

/-- The host's losses at a step. -/
theorem lossOf_at (a : FVec Ideal S8x128 .f32) (q : Fin 8) :
    lossOf a (ix1 q) = (Ideal.div (a (ix2 0 (Fin.castLE (by omega) q))) (Ideal.ofBits .f32 0x4A000000#32)
      + Ideal.ofBits .f32 0x41200000#32
        * (Ideal.div (a (ix2 0 8)) (Ideal.ofBits .f32 0x49800000#32) - Ideal.ofBits .f32 0x3A800000#32) : EReal) := by
  pointwise [lossOf]
  rfl

/-- The first result at the end. -/
theorem tail0 : Pipeline.afterTail₀ cfgs (dats m) 0 (V0 m) [hostOps1] c main_v21 = res0 m c := by
  show StableHlo.after [hostOps1].flatten (VA m c) _ = _
  after_reads_simp [hostOps1]
  rw [VA10]
  funext j
  idx_vars j
  pointwise [res0]
  rfl

/-- The third result at the end. -/
theorem tail2 : Pipeline.afterTail₀ cfgs (dats m) 0 (V0 m) [hostOps1] c main_v32 = res2 m c := by
  show StableHlo.after [hostOps1].flatten (VA m c) _ = _
  after_reads_simp [hostOps1]
  rw [VA12]
  show lossOf _ = _
  funext j
  idx_vars j
  rw [lossOf_at, acc_lane, acc_eight]
  show _ = loss m c j0.val
  unfold loss sumSq tileSum
  rw [sum_tiles fun b t => ∑ d, Spec.diff (cbn m c) (enc m c b t) j0.val d * Spec.diff (cbn m c) (enc m c b t) j0.val d]

/-- The three results at the end of every run. -/
theorem results (g : Dev nD → PrngReg) : θ_run defs (onTc (τ := τ) (main (F := Ideal))) ⟨m, fun _ => 0, g⟩ (fun r => ∀ c : Dev nD,
    r.2.mem ((c : Thread nD τ).loc main_v21) = res0 m c
    ∧ r.2.mem ((c : Thread nD τ).loc main_v20_1) = G11 m c
    ∧ r.2.mem ((c : Thread nD τ).loc main_v32) = res2 m c) :=
  (θ_run defs _ _).mono (fun r h c =>
    ⟨((h c).2 main_v21 (by decide +kernel)).trans (tail0 m c), ((h c).1 11).trans (final11 m c),
      ((h c).2 main_v32 (by decide +kernel)).trans (tail2 m c)⟩) (run_main m g)

end Cert.Proof.Ker
end
-- ==== Proof.RefPick.lean ====
module

public import proofs.«01_k».proof.Proof.Gen.ReferenceIdeal
public import proofs.«01_k».proof.Proof.Spec
public import Idealize.ShloMosaic.Lib.Pointwise

@[expose] public section

/-!
# The reference's choice of an entry

The reference's arg-max along the codebook is the first largest place, and its take at such a place is the
codebook's row.
-/

set_option maxRecDepth 16384

noncomputable section

namespace Cert.Proof.Ref
open Cert.ReferenceIdeal Cert.ReferenceIdeal.Gen
open Idealize.ShloMosaic Idealize.ShloMosaic.TcCoe Idealize.SL.Sem
open Cert.Proof

/-- A value and its place. -/
abbrev Cand := Ideal .f32 × BitVec 32

/-- `p` is at least as good as `e`: its value is larger, or equal at no later a place. -/
def Better (p e : Cand) : Prop := (e.1 : EReal) < p.1 ∨ ((e.1 : EReal) = p.1 ∧ p.2.toInt ≤ e.2.toInt)

/-- A candidate is as good as itself. -/
theorem Better.refl (p : Cand) : Better p p := Or.inr ⟨rfl, le_rfl⟩

/-- Being as good passes on. -/
theorem Better.trans {p q e : Cand} (h : Better p q) (g : Better q e) : Better p e := by
  rcases h with h | ⟨h, hn⟩ <;> rcases g with g | ⟨g, gn⟩
  · exact Or.inl (lt_trans g h)
  · exact Or.inl (g ▸ h)
  · exact Or.inl (h ▸ g)
  · exact Or.inr ⟨g.trans h, hn.trans gn⟩

/-- The reducer keeps one of the two, as good as both. -/
theorem reducer_spec (a b : Cand) : (reducer_argmax_f32_i32 a b = a ∨ reducer_argmax_f32_i32 a b = b)
    ∧ Better (reducer_argmax_f32_i32 a b) a ∧ Better (reducer_argmax_f32_i32 a b) b := by
  obtain ⟨a1, a2⟩ := a
  obtain ⟨b1, b2⟩ := b
  have key : reducer_argmax_f32_i32 (F := Ideal) (a1, a2) (b1, b2)
      = if (b1 : EReal) < a1 then (a1, a2) else if (a1 : EReal) = b1 ∧ a2.toInt < b2.toInt then (a1, a2) else (b1, b2) := by
    rcases lt_trichotomy (a1 : EReal) b1 with h | h | h
    · simp [reducer_argmax_f32_i32, Ideal.cmpf_def, Ideal.cmp, IntOp.ori, IntOp.andi, Scalar.select, h, h.not_gt, h.ne]
    · by_cases g : a2.toInt < b2.toInt
      · simp [reducer_argmax_f32_i32, Ideal.cmpf_def, Ideal.cmp, IntOp.ori, IntOp.andi, IntOp.cmpi, Scalar.select, h, g,
          BitVec.slt_iff_toInt_lt.mpr g]
      · have g' : a2.slt b2 = false := Bool.eq_false_iff.mpr fun hc => g (BitVec.slt_iff_toInt_lt.mp hc)
        simp [reducer_argmax_f32_i32, Ideal.cmpf_def, Ideal.cmp, IntOp.ori, IntOp.andi, IntOp.cmpi, Scalar.select, h, g, g']
    · simp [reducer_argmax_f32_i32, Ideal.cmpf_def, Ideal.cmp, IntOp.ori, IntOp.andi, Scalar.select, h, h.not_gt, h.ne']
  rw [key]
  by_cases h : (b1 : EReal) < a1
  · rw [if_pos h]
    exact ⟨Or.inl rfl, Better.refl _, Or.inl h⟩
  · rw [if_neg h]
    by_cases g : (a1 : EReal) = b1 ∧ a2.toInt < b2.toInt
    · rw [if_pos g]
      exact ⟨Or.inl rfl, Better.refl _, Or.inr ⟨g.1.symm, g.2.le⟩⟩
    · rw [if_neg g]
      refine ⟨Or.inr rfl, ?_, Better.refl _⟩
      rcases lt_or_eq_of_le (not_lt.mp h) with l | e
      · exact Or.inl l
      · exact Or.inr ⟨e, not_lt.mp fun hc => g ⟨e, hc⟩⟩

/-- The fold of the reducer keeps one of the candidates, as good as all. -/
theorem foldl_spec (L : List Cand) : ∀ acc : Cand,
    (L.foldl reducer_argmax_f32_i32 acc = acc ∨ L.foldl reducer_argmax_f32_i32 acc ∈ L)
      ∧ Better (L.foldl reducer_argmax_f32_i32 acc) acc ∧ ∀ e ∈ L, Better (L.foldl reducer_argmax_f32_i32 acc) e := by
  induction L with
  | nil => exact fun acc => ⟨Or.inl rfl, Better.refl _, fun e he => absurd he List.not_mem_nil⟩
  | cons x L ih =>
    intro acc
    obtain ⟨hm, ha, hl⟩ := ih (reducer_argmax_f32_i32 acc x)
    obtain ⟨hr, h1, h2⟩ := reducer_spec acc x
    rw [List.foldl_cons]
    refine ⟨?_, ha.trans h1, fun e he => ?_⟩
    · rcases hm with hm | hm
      · rcases hr with hr | hr
        · exact Or.inl (hm.trans hr)
        · exact Or.inr (by rw [hm, hr]; exact List.mem_cons_self)
      · exact Or.inr (List.mem_cons_of_mem _ hm)
    · rcases List.mem_cons.mp he with rfl | he
      · exact ha.trans h2
      · exact hl e he

/-- The candidates' best is the first largest place. -/
theorem best_first (s : Fin 1024 → EReal) (L : List Cand)
    (hL : ∀ e : Cand, e ∈ L ↔ ∃ k : Fin 1024, e = (s k, BitVec.ofNat 32 k.val)) :
    (L.foldl reducer_argmax_f32_i32 ((⊥ : EReal), 0#32)).2 = BitVec.ofNat 32 (Spec.first s).val := by
  obtain ⟨hm, ha, hl⟩ := foldl_spec L ((⊥ : EReal), 0#32)
  generalize L.foldl reducer_argmax_f32_i32 ((⊥ : EReal), 0#32) = p at hm ha hl
  have hk : ∃ k : Fin 1024, p = (s k, BitVec.ofNat 32 k.val) := by
    rcases hm with hm | hm
    · refine ⟨0, ?_⟩
      have h0 := hl _ ((hL _).mpr ⟨0, rfl⟩)
      rw [hm] at h0 ⊢
      rcases h0 with h0 | ⟨h0, _⟩
      · exact absurd h0 not_lt_bot
      · rw [show s 0 = ⊥ from h0]
        rfl
    · exact (hL p).mp hm
  obtain ⟨k, rfl⟩ := hk
  have hb : ∀ j : Fin 1024, s j < s k ∨ (s j = s k ∧ k ≤ j) := fun j => by
    rcases hl _ ((hL _).mpr ⟨j, rfl⟩) with h | ⟨h, hn⟩
    · exact Or.inl h
    · refine Or.inr ⟨h, ?_⟩
      rw [Spec.toInt_small k.val (by omega), Spec.toInt_small j.val (by omega)] at hn
      exact Fin.le_def.mpr (by exact_mod_cast hn)
  rw [Spec.first_unique (k := k) ⟨fun j => ?_, fun j hj => ?_⟩]
  · rcases hb j with h | ⟨h, _⟩
    · exact h.le
    · exact h.le
  · rcases hb j with h | ⟨_, h⟩
    · exact h
    · exact absurd hj (not_lt.mpr h)

/-- The candidates of a result index are the pairs at the source indices that drop to it. -/
theorem mem_fiber {α β : Type} {s t : Shape} {axes : List (Fin s.rank)} (x : s.Idx → α) (y : s.Idx → β)
    (h : s.ReducesTo axes t) (j : t.Idx) (e : α × β) :
    e ∈ Host.argReduceFiber x y h j ↔ ∃ i, h.drop i = j ∧ e = (x i, y i) := by
  unfold Host.argReduceFiber
  rw [List.mem_map]
  constructor
  · rintro ⟨n, hn, rfl⟩
    exact ⟨_, of_decide_eq_true (List.mem_filter.mp hn).2, rfl⟩
  · rintro ⟨i, hi, rfl⟩
    refine ⟨s.rowMajor i, List.mem_filter.mpr ⟨List.mem_finRange _, ?_⟩, ?_⟩
    · rw [Equiv.symm_apply_apply]
      exact decide_eq_true hi
    · rw [Equiv.symm_apply_apply]

/-- The indices that drop to a row are the row's. -/
theorem drop_row (i : S4x2048x1024.Idx) (b : Fin 4) (t : Fin 2048) :
    reducesTo_S4x2048x1024_S4x2048_d2.drop i = ix2 b t ↔ ∃ k, i = ix3 b t k := by
  have h0 := reducesTo_S4x2048x1024_S4x2048_d2.drop_apply_val_of_eq i 0 0
  have h1 := reducesTo_S4x2048x1024_S4x2048_d2.drop_apply_val_of_eq i 1 1
  constructor
  · intro hd
    rw [hd] at h0 h1
    idx_vars i
    obtain rfl : b = i0 := Fin.ext h0
    obtain rfl : t = i1 := Fin.ext h1
    exact ⟨i2, rfl⟩
  · rintro ⟨k, rfl⟩
    refine funext fun a => Fin.ext ?_
    match a with
    | ⟨0, _⟩ => exact h0
    | ⟨1, _⟩ => exact h1

/-- The place that an arg-max keeps. -/
def argPlace {s t u : Shape} {axes : List (Fin s.rank)} (x : FVec Ideal s .f32) (y : s.Idx → BitVec 32)
    (ix : u.Idx → Ideal .f32) (iy : u.Idx → BitVec 32) (h : s.ReducesTo axes t) (hu : 0 < u.numel) : t.Idx → BitVec 32 :=
  fun j => (Host.argReduce reducer_argmax_f32_i32 x y ix iy h hu j).2

/-- The place that an arg-max keeps is the fold's over the candidates. -/
theorem argPlace_eq {s t u : Shape} {axes : List (Fin s.rank)} (x : FVec Ideal s .f32) (y : s.Idx → BitVec 32)
    (ix : u.Idx → Ideal .f32) (iy : u.Idx → BitVec 32) (h : s.ReducesTo axes t) (hu : 0 < u.numel) (j : t.Idx)
    (f : Fin 1024 → EReal) (hx : ix (Shape.Idx.first hu) = (⊥ : EReal)) (hy : iy (Shape.Idx.first hu) = 0#32)
    (hf : ∀ e : Cand, (∃ i, h.drop i = j ∧ e = (x i, y i)) ↔ ∃ k : Fin 1024, e = (f k, BitVec.ofNat 32 k.val)) :
    argPlace x y ix iy h hu j = BitVec.ofNat 32 (Spec.first f).val := by
  unfold argPlace
  rw [Ideal.argReduce_eq_reduce2, Host.reduce2_eq_foldl_fiber, hx, hy]
  exact best_first _ _ fun e => (mem_fiber x y h j e).trans (hf e)

/-- The reference's arg-max along the last axis. -/
def argIdx (s : FVec Ideal S4x2048x1024 .f32) : IVec S4x2048 32 :=
  argPlace s (iotaInDim S4x2048x1024 32 2) (constant S_ .f32 0xFF800000#32) (constantI S_ 32 0#32)
    reducesTo_S4x2048x1024_S4x2048_d2 h_S_

/-- The arg-max is the first largest place of a row. -/
theorem argIdx_at (s : FVec Ideal S4x2048x1024 .f32) (b : Fin 4) (t : Fin 2048) :
    argIdx s (ix2 b t) = BitVec.ofNat 32 (Spec.first fun k => s (ix3 b t k)).val := by
  unfold argIdx
  refine argPlace_eq _ _ _ _ _ _ _ _ ?_ rfl fun e => ?_
  · show Ideal.ofBits .f32 0xFF800000#32 = (⊥ : EReal)
    simp [Ideal.ofBits, Ideal.ieee]
  constructor
  · rintro ⟨i, hd, rfl⟩
    obtain ⟨k, rfl⟩ := (drop_row i b t).mp hd
    exact ⟨k, congrArg (Prod.mk _) (by pointwise)⟩
  · rintro ⟨k, rfl⟩
    exact ⟨ix3 b t k, (drop_row _ b t).mpr ⟨k, rfl⟩, congrArg (Prod.mk _) (by pointwise)⟩

end Cert.Proof.Ref
end
-- ==== Proof.RefTake.lean ====
module

public import proofs.«01_k».proof.Proof.RefPick

@[expose] public section

/-!
# The reference's take

The reference's take at a place of the codebook is the codebook's row there.
-/

set_option maxRecDepth 16384

noncomputable section

namespace Cert.Proof.Ref
open Cert.ReferenceIdeal Cert.ReferenceIdeal.Gen
open Idealize.ShloMosaic Idealize.ShloMosaic.TcCoe Idealize.SL.Sem
open Cert.Proof

/-- The gather's row: the operand at the row that the place names. -/
theorem gather_row (x : FVec Ideal S1024x256 .f32) (i : IVec S4x2048x1 32) (b : Fin 4) (t : Fin 2048) (d : Fin 256)
    (k : Fin 1024) (hk : i (ix3 b t 0) = BitVec.ofNat 32 k.val) :
    Host.gather gather_S1024x256_S4x2048x1_S4x2048x256_2_0_n_n_0_2_1256 x i (ix3 b t d) = x (ix2 k d) := by
  unfold Host.gather
  congr 1
  funext a
  refine Fin.ext ?_
  generalize hD : gather_S1024x256_S4x2048x1_S4x2048x256_2_0_n_n_0_2_1256 = D
  show D.start (ix3 b t d) i a + D.batchCoord (ix3 b t d) a + D.offCoord (ix3 b t d) a = _
  subst hD
  rw [GatherDims.batchCoord_eq_zero _ _ _ (fun h => absurd h List.not_mem_nil), Nat.add_zero]
  have h01 : a = (0 : Fin 2) ∨ a = (1 : Fin 2) := by
    match a with
    | ⟨0, _⟩ => exact Or.inl rfl
    | ⟨1, _⟩ => exact Or.inr rfl
  rcases h01 with rfl | rfl
  · rw [GatherDims.offCoord_eq_zero _ _ _ (fun h => ((GatherDims.mem_sKept _ _).mp h).1 (List.mem_singleton.mpr rfl)),
      Nat.add_zero]
    unfold GatherDims.start
    rw [dif_pos (show (0 : Fin 2) ∈ gather_S1024x256_S4x2048x1_S4x2048x256_2_0_n_n_0_2_1256.startIndexMap from
      List.mem_singleton.mpr rfl)]
    have hsi : ∀ c, GatherDims.siIdx gather_S1024x256_S4x2048x1_S4x2048x256_2_0_n_n_0_2_1256 (ix3 b t d) c = ix3 b t 0 := by
      intro c
      funext e
      refine Fin.ext ?_
      match e with
      | ⟨0, _⟩ => rfl
      | ⟨1, _⟩ => rfl
      | ⟨2, _⟩ => exact Nat.lt_one_iff.mp c.isLt
    rw [hsi, hk, Spec.toInt_small k.val (by omega)]
    show min k.val (1024 - 1) = k.val
    omega
  · unfold GatherDims.start
    rw [dif_neg (show (1 : Fin 2) ∉ gather_S1024x256_S4x2048x1_S4x2048x256_2_0_n_n_0_2_1256.startIndexMap by decide),
      Nat.zero_add]
    rfl

/-- The places as the take reads them: a negative place has the codebook's length added. -/
def wrapIdx (i : IVec S4x2048 32) : IVec S4x2048x1 32 :=
  broadcastInDim S4x2048x1 ![0, 1] bcast_S4x2048_S4x2048x1_0_1
    (select (cmpi .slt i (broadcastInDim S4x2048 ![] bcast_S_S4x2048 (constantI S_ 32 0#32)))
      (addi i (broadcastInDim S4x2048 ![] bcast_S_S4x2048 (constantI S_ 32 1024#32))) i)

/-- Where a place lies within the codebook. -/
def inRange (p : IVec S4x2048x1 32) : IVec S4x2048x1 1 :=
  andi (cmpi .sge p (broadcastInDim S4x2048x1 ![] bcast_S_S4x2048x1 (constantI S_ 32 0#32)))
    (cmpi .sle p (broadcastInDim S4x2048x1 ![0, 1, 2] bcast_S1x1x1_S4x2048x1_0_1_2
      (broadcastInDim S1x1x1 ![2] bcast_S1_S1x1x1_2 (constantI S1 32 1023#32))))

/-- The reference's take of the codebook's rows. -/
def takeRows (x : FVec Ideal S1024x256 .f32) (i : IVec S4x2048 32) : FVec Ideal S4x2048x256 .f32 :=
  select (broadcastInDim S4x2048x256 ![0, 1] bcast_S4x2048_S4x2048x256_0_1
      (Host.reduce IntOp.andi (inRange (wrapIdx i)) (constantI S_ 1 1#1) reducesTo_S4x2048x1_S4x2048_d2 h_S_))
    (Host.gather gather_S1024x256_S4x2048x1_S4x2048x256_2_0_n_n_0_2_1256 x (wrapIdx i))
    (broadcastInDim S4x2048x256 ![] bcast_S_S4x2048x256 (constant S_ .f32 0x7FC00000#32))

/-- A place of the codebook is kept. -/
theorem wrapIdx_at (i : IVec S4x2048 32) (b : Fin 4) (t : Fin 2048) (k : Fin 1024) (hk : i (ix2 b t) = BitVec.ofNat 32 k.val) :
    wrapIdx i (ix3 b t 0) = BitVec.ofNat 32 k.val := by
  pointwise [wrapIdx]
  have h : (BitVec.ofNat 32 k.val).slt 0#32 = false := Bool.eq_false_iff.mpr fun hc => by
    have hlt := BitVec.slt_iff_toInt_lt.mp hc
    rw [Spec.toInt_small k.val (by omega)] at hlt
    exact absurd hlt (by simp)
  simp [hk, IntOp.cmpi, Scalar.select, h]

/-- The take at a place of the codebook. -/
theorem takeRows_at (x : FVec Ideal S1024x256 .f32) (i : IVec S4x2048 32) (b : Fin 4) (t : Fin 2048) (d : Fin 256)
    (k : Fin 1024) (hk : i (ix2 b t) = BitVec.ofNat 32 k.val) : takeRows x i (ix3 b t d) = x (ix2 k d) := by
  have hw : ∀ e : Fin 1, wrapIdx i (ix3 b t e) = BitVec.ofNat 32 k.val := fun e => by
    obtain rfl : e = 0 := Subsingleton.elim _ _
    exact wrapIdx_at i b t k hk
  have h0 : (0#32).sle (BitVec.ofNat 32 k.val) = true := BitVec.sle_iff_toInt_le.mpr (by
    rw [Spec.toInt_small k.val (by omega)]
    simp)
  have h1 : (BitVec.ofNat 32 k.val).sle 1023#32 = true := BitVec.sle_iff_toInt_le.mpr (by
    rw [Spec.toInt_small k.val (by omega), Spec.toInt_small 1023 (by omega)]
    omega)
  pointwise [takeRows, inRange]
  rw [gather_row x _ b t d k (hw 0)]
  simp [hw, IntOp.cmpi, IntOp.andi, Scalar.select, h0, h1]

end Cert.Proof.Ref
end
-- ==== Proof.RefStep.lean ====
module

public import proofs.«01_k».proof.Proof.RefTake

@[expose] public section

/-!
# The reference's step as array functions

The values of one step of the reference: of the scaled codebook, the residual, the running total and the
regularising term.
-/

set_option maxRecDepth 16384

noncomputable section

namespace Cert.Proof.Ref
open Cert.ReferenceIdeal Cert.ReferenceIdeal.Gen
open Idealize.ShloMosaic Idealize.ShloMosaic.TcCoe Idealize.SL.Sem
open Cert.Proof

/-- The scaled residual. -/
def scaledArr (r : FVec Ideal S4x2048x256 .f32) : FVec Ideal S4x2048x256 .f32 :=
  Host.divf r (broadcastInDim S4x2048x256 ![0, 1, 2] bcast_S4x2048x1_S4x2048x256_0_1_2
    (addf (Host.sqrt (broadcastInDim S4x2048x1 ![0, 1] bcast_S4x2048_S4x2048x1_0_1
      (Host.reduceAdd (mulf r r) (constant S_ .f32 0x00000000#32) reducesTo_S4x2048x256_S4x2048_d2 h_S_)))
      (broadcastInDim S4x2048x1 ![] bcast_S_S4x2048x1 (constant S_ .f32 0x2B8CBCCC#32))))

/-- The places that the step chooses. -/
def find (cb : FVec Ideal S1024x256 .f32) (r : FVec Ideal S4x2048x256 .f32) : IVec S4x2048 32 :=
  argIdx (Host.dotGeneral dot_S4x2048x256_S1024x256_S4x2048x1024_2_1_01_0_n_n none (scaledArr r) cb)

/-- The chosen rows less the residual. -/
def diffArr (q r : FVec Ideal S4x2048x256 .f32) : FVec Ideal S4x2048x256 .f32 := subf q r

/-- The loss of the step. -/
def lossArr (o : FVec Ideal S_ .f32) (q r : FVec Ideal S4x2048x256 .f32) : FVec Ideal S_ .f32 :=
  addf (Host.divf (Host.reduceAdd (mulf (diffArr q r) (diffArr q r)) (constant S_ .f32 0x00000000#32)
      reducesTo_S4x2048x256_S_d0_1_2 h_S_) (constant S_ .f32 0x4A000000#32))
    (mulf (constant S_ .f32 0x41200000#32) o)

/-- The running total after the step. -/
def totalArr (t q r : FVec Ideal S4x2048x256 .f32) : FVec Ideal S4x2048x256 .f32 := addf t (addf r (diffArr q r))

/-- The residual after `q` steps. -/
def resArr (cb : FVec Ideal S1024x256 .f32) (z : FVec Ideal S4x2048x256 .f32) : Nat → FVec Ideal S4x2048x256 .f32
  | 0 => z
  | q + 1 => subf (resArr cb z q) (takeRows cb (find cb (resArr cb z q)))

/-- The running total after `q` steps from `t`. -/
def totArr (cb : FVec Ideal S1024x256 .f32) (z t : FVec Ideal S4x2048x256 .f32) : Nat → FVec Ideal S4x2048x256 .f32
  | 0 => t
  | q + 1 => totalArr (totArr cb z t q) (takeRows cb (find cb (resArr cb z q))) (resArr cb z q)

/-- A row of an array. -/
def rowAt (r : FVec Ideal S4x2048x256 .f32) (b : Fin 4) (t : Fin 2048) (d : Fin 256) : EReal := r (ix3 b t d)

/-- The entries of a codebook. -/
def entAt (cb : FVec Ideal S1024x256 .f32) (k : Fin 1024) (d : Fin 256) : EReal := cb (ix2 k d)

/-- The scaled residual at a row. -/
theorem scaledArr_at (r : FVec Ideal S4x2048x256 .f32) (b : Fin 4) (t : Fin 2048) (d : Fin 256) :
    scaledArr r (ix3 b t d) = Spec.scaled (rowAt r b t) d := by
  pointwise [scaledArr]
  rfl

/-- The chosen place of a row. -/
theorem find_at (cb : FVec Ideal S1024x256 .f32) (r : FVec Ideal S4x2048x256 .f32) (b : Fin 4) (t : Fin 2048) :
    find cb r (ix2 b t) = BitVec.ofNat 32 (Spec.first (Spec.sim (entAt cb) (rowAt r b t))).val := by
  unfold find
  rw [argIdx_at]
  have h : (fun k => Host.dotGeneral dot_S4x2048x256_S1024x256_S4x2048x1024_2_1_01_0_n_n none (scaledArr r) cb (ix3 b t k))
      = Spec.sim (entAt cb) (rowAt r b t) := by
    funext k
    pointwise [scaledArr_at]
    rfl
  rw [h]

/-- The chosen row of the codebook. -/
theorem take_at (cb : FVec Ideal S1024x256 .f32) (r : FVec Ideal S4x2048x256 .f32) (b : Fin 4) (t : Fin 2048) (d : Fin 256) :
    takeRows cb (find cb r) (ix3 b t d) = entAt cb (Spec.first (Spec.sim (entAt cb) (rowAt r b t))) d :=
  takeRows_at cb _ b t d _ (find_at cb r b t)

/-- The residual at a row. -/
theorem resArr_at (cb : FVec Ideal S1024x256 .f32) (z : FVec Ideal S4x2048x256 .f32) (b : Fin 4) (t : Fin 2048) (q : Nat) :
    rowAt (resArr cb z q) b t = Spec.resid (entAt cb) (rowAt z b t) q := by
  induction q with
  | zero => rfl
  | succ q ih =>
    funext d
    show (resArr cb z q (ix3 b t d) - takeRows cb (find cb (resArr cb z q)) (ix3 b t d) : EReal) = _
    rw [take_at, ih, show resArr cb z q (ix3 b t d) = Spec.resid (entAt cb) (rowAt z b t) q d from congrFun ih d]
    rfl

/-- The chosen place at step `q`. -/
theorem find_step (cb : FVec Ideal S1024x256 .f32) (z : FVec Ideal S4x2048x256 .f32) (b : Fin 4) (t : Fin 2048) (q : Nat) :
    find cb (resArr cb z q) (ix2 b t) = BitVec.ofNat 32 (Spec.pick (entAt cb) (rowAt z b t) q).val := by
  rw [find_at, resArr_at]
  rfl

/-- The difference at step `q`. -/
theorem diff_step (cb : FVec Ideal S1024x256 .f32) (z : FVec Ideal S4x2048x256 .f32) (b : Fin 4) (t : Fin 2048) (d : Fin 256)
    (q : Nat) : diffArr (takeRows cb (find cb (resArr cb z q))) (resArr cb z q) (ix3 b t d)
      = Spec.diff (entAt cb) (rowAt z b t) q d := by
  show (takeRows cb (find cb (resArr cb z q)) (ix3 b t d) - resArr cb z q (ix3 b t d) : EReal) = _
  rw [take_at, resArr_at, show resArr cb z q (ix3 b t d) = Spec.resid (entAt cb) (rowAt z b t) q d from
    congrFun (resArr_at cb z b t q) d]
  rfl

/-- The running total at a row. -/
theorem totArr_at (cb : FVec Ideal S1024x256 .f32) (z t0 : FVec Ideal S4x2048x256 .f32) (h0 : ∀ j, t0 j = (0 : EReal))
    (b : Fin 4) (t : Fin 2048) (d : Fin 256) (q : Nat) :
    totArr cb z t0 q (ix3 b t d) = Spec.total (entAt cb) (rowAt z b t) q d := by
  induction q with
  | zero => exact h0 _
  | succ q ih =>
    show (totArr cb z t0 q (ix3 b t d) + (resArr cb z q (ix3 b t d)
      + diffArr (takeRows cb (find cb (resArr cb z q))) (resArr cb z q) (ix3 b t d)) : EReal) = _
    rw [ih, diff_step, show resArr cb z q (ix3 b t d) = Spec.resid (entAt cb) (rowAt z b t) q d from
      congrFun (resArr_at cb z b t q) d]
    rfl

/-- The loss of step `q`. -/
theorem loss_step (cb : FVec Ideal S1024x256 .f32) (z : FVec Ideal S4x2048x256 .f32) (o : FVec Ideal S_ .f32) (q : Nat)
    (j : S_.Idx) : lossArr o (takeRows cb (find cb (resArr cb z q))) (resArr cb z q) j
      = (Ideal.div (∑ b, ∑ t, ∑ d, Spec.diff (entAt cb) (rowAt z b t) q d * Spec.diff (entAt cb) (rowAt z b t) q d)
          (Ideal.ofBits .f32 0x4A000000#32) + Ideal.ofBits .f32 0x41200000#32 * o j : EReal) := by
  pointwise [lossArr, diff_step]

end Cert.Proof.Ref
end
-- ==== Proof.RefRead.lean ====
module

public import proofs.«01_k».proof.Proof.RefStep
public import proofs.«01_k».proof.Proof.RefRun

@[expose] public section

/-!
# What the stages of the reference leave

One step, read from any contents of the buffers: the chosen places, the loss, the next residual and the next total.
-/

set_option maxRecDepth 16384
set_option maxHeartbeats 4000000

noncomputable section

namespace Cert.Proof.Ref
open Cert.ReferenceIdeal Cert.ReferenceIdeal.Gen
open Idealize.ShloMosaic Idealize.ShloMosaic.TcCoe Idealize.ShloMosaic.StableHlo Idealize.SL.Sem
open Cert.Proof

/-- What a buffer holds. -/
def val {T : BufTy} (V : Valuation τ sig (Elt Ideal)) (x : TRef sig T) : T.Contents (Elt Ideal) :=
  x.ofBuf (V (Proc.devRef .tc x.ref))

/-- Operations that choose the places `ix` for the residual `r`. -/
def Finds (ops : List (HloOp τ sig (Elt Ideal))) (r : TRef sig ⟨S4x2048x256, .f32⟩) (ix : TRef sig ⟨S4x2048, .i32⟩) : Prop :=
  ∀ V, val (after ops V) ix = find (V (Proc.devRef .tc main_v10)) (val V r)

/-- Operations that look up the rows `v` of the places `ix`. -/
def Takes (ops : List (HloOp τ sig (Elt Ideal))) (ix : TRef sig ⟨S4x2048, .i32⟩) (v : TRef sig ⟨S4x2048x256, .f32⟩) : Prop :=
  ∀ V, val (after ops V) v = takeRows (V (Proc.devRef .tc main_v10)) (val V ix)

/-- Operations that leave the loss, the next total and the next residual. -/
def Accs (ops : List (HloOp τ sig (Elt Ideal))) (v r t t' r' : TRef sig ⟨S4x2048x256, .f32⟩) (l : TRef sig ⟨S_, .f32⟩) : Prop :=
  ∀ V, val (after ops V) l = lossArr (V (Proc.devRef .tc main_v16)) (val V v) (val V r)
    ∧ val (after ops V) t' = totalArr (val V t) (val V v) (val V r)
    ∧ val (after ops V) r' = (subf (val V r) (val V v) : FVec Ideal S4x2048x256 .f32)

/-- The buffer of the residual that enters a step. -/
def resRef : Nat → TRef sig ⟨S4x2048x256, .f32⟩
  | 0 => .of main_v5
  | 1 => .of main_v35
  | 2 => .of main_v53
  | 3 => .of main_v71
  | 4 => .of main_v89
  | 5 => .of main_v107
  | 6 => .of main_v125
  | 7 => .of main_v143
  | _ => .of main_v161

/-- The buffer of the total that enters a step. -/
def totRef : Nat → TRef sig ⟨S4x2048x256, .f32⟩
  | 0 => .of main_v17
  | 1 => .of main_v34
  | 2 => .of main_v52
  | 3 => .of main_v70
  | 4 => .of main_v88
  | 5 => .of main_v106
  | 6 => .of main_v124
  | 7 => .of main_v142
  | _ => .of main_v160

/-- The buffer of the places that a step chooses. -/
def idxRef : Nat → TRef sig ⟨S4x2048, .i32⟩
  | 0 => .of main_v24
  | 1 => .of main_v42
  | 2 => .of main_v60
  | 3 => .of main_v78
  | 4 => .of main_v96
  | 5 => .of main_v114
  | 6 => .of main_v132
  | _ => .of main_v150

/-- The buffer of a step's loss. -/
def lossRef : Nat → TRef sig ⟨S_, .f32⟩
  | 0 => .of main_v33
  | 1 => .of main_v51
  | 2 => .of main_v69
  | 3 => .of main_v87
  | 4 => .of main_v105
  | 5 => .of main_v123
  | 6 => .of main_v141
  | _ => .of main_v159

/-- The buffer of the rows that a step looks up. -/
def vecRef : Nat → TRef sig ⟨S4x2048x256, .f32⟩
  | 0 => .of main_v25
  | 1 => .of main_v43
  | 2 => .of main_v61
  | 3 => .of main_v79
  | 4 => .of main_v97
  | 5 => .of main_v115
  | 6 => .of main_v133
  | _ => .of main_v151

/-- The operations of a step that choose the places. -/
def findOps : Nat → List (HloOp τ sig (Elt Ideal))
  | 0 => ops_find0
  | 1 => ops_find1
  | 2 => ops_find2
  | 3 => ops_find3
  | 4 => ops_find4
  | 5 => ops_find5
  | 6 => ops_find6
  | 7 => ops_find7
  | _ => []

/-- The operations of a step that look up the rows. -/
def takeOps : Nat → List (HloOp τ sig (Elt Ideal))
  | 0 => ops_take0
  | 1 => ops_take1
  | 2 => ops_take2
  | 3 => ops_take3
  | 4 => ops_take4
  | 5 => ops_take5
  | 6 => ops_take6
  | 7 => ops_take7
  | _ => []

/-- The operations of a step that update the totals. -/
def accOps : Nat → List (HloOp τ sig (Elt Ideal))
  | 0 => ops_acc0
  | 1 => ops_acc1
  | 2 => ops_acc2
  | 3 => ops_acc3
  | 4 => ops_acc4
  | 5 => ops_acc5
  | 6 => ops_acc6
  | 7 => ops_acc7
  | _ => []

/-- The buffers that a norm writes. -/
def normW (φ : fn_norm_0.Bufs) : List (Ref sig .tc) := [φ.v0.ref, φ.cst.ref, φ.v1.ref, φ.v2.ref, φ.v3.ref]

/-- The buffers that an argmax writes. -/
def argmaxW (φ : fn_argmax.Bufs) : List (Ref sig .tc) := [φ.v0.ref, φ.cst.ref, φ.c.ref, φ.v1_0.ref, φ.v1_1.ref]

/-- The buffers that a look-up writes. -/
def takeFnW (φ : fn_take.Bufs) : List (Ref sig .tc) :=
  [φ.c.ref, φ.v0.ref, φ.v1.ref, φ.c_0.ref, φ.v2.ref, φ.v3.ref, φ.call0.v0.ref, φ.v5.ref, φ.c_1.ref, φ.c_2.ref, φ.v6.ref,
    φ.v7.ref, φ.v8.ref, φ.v9.ref, φ.v10.ref, φ.v11.ref, φ.c_3.ref, φ.v12.ref, φ.v13.ref, φ.v14.ref, φ.cst.ref, φ.v15.ref,
    φ.v16.ref]

/-- The buffers written where a step does this: choose the places. -/
def findW : Nat → List (Ref sig .tc)
  | 0 => normW main_call1 ++ [main_cst_4, main_v19, main_v20, main_v21, main_v22, main_v23] ++ argmaxW main_call2
  | 1 => normW main_call4 ++ [main_cst_8, main_v37, main_v38, main_v39, main_v40, main_v41] ++ argmaxW main_call5
  | 2 => normW main_call7 ++ [main_cst_12, main_v55, main_v56, main_v57, main_v58, main_v59] ++ argmaxW main_call8
  | 3 => normW main_call10 ++ [main_cst_16, main_v73, main_v74, main_v75, main_v76, main_v77] ++ argmaxW main_call11
  | 4 => normW main_call13 ++ [main_cst_20, main_v91, main_v92, main_v93, main_v94, main_v95] ++ argmaxW main_call14
  | 5 => normW main_call16 ++ [main_cst_24, main_v109, main_v110, main_v111, main_v112, main_v113] ++ argmaxW main_call17
  | 6 => normW main_call19 ++ [main_cst_28, main_v127, main_v128, main_v129, main_v130, main_v131] ++ argmaxW main_call20
  | 7 => normW main_call22 ++ [main_cst_32, main_v145, main_v146, main_v147, main_v148, main_v149] ++ argmaxW main_call23
  | _ => []

/-- The buffers written where a step does this: look up the rows. -/
def takeW : Nat → List (Ref sig .tc)
  | 0 => takeFnW main_call3
  | 1 => takeFnW main_call6
  | 2 => takeFnW main_call9
  | 3 => takeFnW main_call12
  | 4 => takeFnW main_call15
  | 5 => takeFnW main_call18
  | 6 => takeFnW main_call21
  | 7 => takeFnW main_call24
  | _ => []

/-- The buffers written where a step does this: update the totals. -/
def accW : Nat → List (Ref sig .tc)
  | 0 => [main_v26, main_v27, main_v28, main_v29, main_cst_5, main_v30, main_cst_6, main_v31, main_cst_7, main_v32, main_v33, main_v34, main_v35]
  | 1 => [main_v44, main_v45, main_v46, main_v47, main_cst_9, main_v48, main_cst_10, main_v49, main_cst_11, main_v50, main_v51, main_v52, main_v53]
  | 2 => [main_v62, main_v63, main_v64, main_v65, main_cst_13, main_v66, main_cst_14, main_v67, main_cst_15, main_v68, main_v69, main_v70, main_v71]
  | 3 => [main_v80, main_v81, main_v82, main_v83, main_cst_17, main_v84, main_cst_18, main_v85, main_cst_19, main_v86, main_v87, main_v88, main_v89]
  | 4 => [main_v98, main_v99, main_v100, main_v101, main_cst_21, main_v102, main_cst_22, main_v103, main_cst_23, main_v104, main_v105, main_v106, main_v107]
  | 5 => [main_v116, main_v117, main_v118, main_v119, main_cst_25, main_v120, main_cst_26, main_v121, main_cst_27, main_v122, main_v123, main_v124, main_v125]
  | 6 => [main_v134, main_v135, main_v136, main_v137, main_cst_29, main_v138, main_cst_30, main_v139, main_cst_31, main_v140, main_v141, main_v142, main_v143]
  | 7 => [main_v152, main_v153, main_v154, main_v155, main_cst_33, main_v156, main_cst_34, main_v157, main_cst_35, main_v158, main_v159, main_v160, main_v161]
  | _ => []

/-- What the operations `findOps` write. -/
theorem find_writes (q : Nat) (hq : q < 8) :
    (findOps q).map HloOp.writes = (findW q).map fun w => {Proc.devRef (τ := τ) .tc w} := by
  interval_cases q <;> rfl

/-- What the operations `takeOps` write. -/
theorem take_writes (q : Nat) (hq : q < 8) :
    (takeOps q).map HloOp.writes = (takeW q).map fun w => {Proc.devRef (τ := τ) .tc w} := by
  interval_cases q <;> rfl

/-- What the operations `accOps` write. -/
theorem acc_writes (q : Nat) (hq : q < 8) :
    (accOps q).map HloOp.writes = (accW q).map fun w => {Proc.devRef (τ := τ) .tc w} := by
  interval_cases q <;> rfl

/-- The choices of the steps. -/
theorem finds :
    Finds ops_find0 (.of main_v5) (.of main_v24)
    ∧ Finds ops_find1 (.of main_v35) (.of main_v42)
    ∧ Finds ops_find2 (.of main_v53) (.of main_v60)
    ∧ Finds ops_find3 (.of main_v71) (.of main_v78)
    ∧ Finds ops_find4 (.of main_v89) (.of main_v96)
    ∧ Finds ops_find5 (.of main_v107) (.of main_v114)
    ∧ Finds ops_find6 (.of main_v125) (.of main_v132)
    ∧ Finds ops_find7 (.of main_v143) (.of main_v150) := by
  refine ⟨?_, ?_, ?_, ?_, ?_, ?_, ?_, ?_⟩
  all_goals
    intro V
    dsimp only [val, TRef.of]
    after_reads_simp
    simp only [find, argIdx, argPlace]
    rfl

/-- The look-ups of the steps. -/
theorem takes :
    Takes ops_take0 (.of main_v24) (.of main_v25)
    ∧ Takes ops_take1 (.of main_v42) (.of main_v43)
    ∧ Takes ops_take2 (.of main_v60) (.of main_v61)
    ∧ Takes ops_take3 (.of main_v78) (.of main_v79)
    ∧ Takes ops_take4 (.of main_v96) (.of main_v97)
    ∧ Takes ops_take5 (.of main_v114) (.of main_v115)
    ∧ Takes ops_take6 (.of main_v132) (.of main_v133)
    ∧ Takes ops_take7 (.of main_v150) (.of main_v151) := by
  refine ⟨?_, ?_, ?_, ?_, ?_, ?_, ?_, ?_⟩
  all_goals
    intro V
    dsimp only [val, TRef.of]
    after_reads_simp
    rfl

/-- The updates of the steps. -/
theorem accs :
    Accs ops_acc0 (.of main_v25) (.of main_v5) (.of main_v17) (.of main_v34) (.of main_v35) (.of main_v33)
    ∧ Accs ops_acc1 (.of main_v43) (.of main_v35) (.of main_v34) (.of main_v52) (.of main_v53) (.of main_v51)
    ∧ Accs ops_acc2 (.of main_v61) (.of main_v53) (.of main_v52) (.of main_v70) (.of main_v71) (.of main_v69)
    ∧ Accs ops_acc3 (.of main_v79) (.of main_v71) (.of main_v70) (.of main_v88) (.of main_v89) (.of main_v87)
    ∧ Accs ops_acc4 (.of main_v97) (.of main_v89) (.of main_v88) (.of main_v106) (.of main_v107) (.of main_v105)
    ∧ Accs ops_acc5 (.of main_v115) (.of main_v107) (.of main_v106) (.of main_v124) (.of main_v125) (.of main_v123)
    ∧ Accs ops_acc6 (.of main_v133) (.of main_v125) (.of main_v124) (.of main_v142) (.of main_v143) (.of main_v141)
    ∧ Accs ops_acc7 (.of main_v151) (.of main_v143) (.of main_v142) (.of main_v160) (.of main_v161) (.of main_v159) := by
  refine ⟨?_, ?_, ?_, ?_, ?_, ?_, ?_, ?_⟩
  all_goals
    intro V
    dsimp only [val, TRef.of]
    after_reads_simp
    exact ⟨rfl, rfl, rfl⟩

/-- The choices of step `q`. -/
theorem finds_at (q : Nat) (hq : q < 8) : Finds (findOps q) (resRef q) (idxRef q) := by
  obtain ⟨h0, h1, h2, h3, h4, h5, h6, h7⟩ := finds
  interval_cases q
  exacts [h0, h1, h2, h3, h4, h5, h6, h7]

/-- The look-up of step `q`. -/
theorem takes_at (q : Nat) (hq : q < 8) : Takes (takeOps q) (idxRef q) (vecRef q) := by
  obtain ⟨h0, h1, h2, h3, h4, h5, h6, h7⟩ := takes
  interval_cases q
  exacts [h0, h1, h2, h3, h4, h5, h6, h7]

/-- The updates of step `q`. -/
theorem accs_at (q : Nat) (hq : q < 8) :
    Accs (accOps q) (vecRef q) (resRef q) (totRef q) (totRef (q + 1)) (resRef (q + 1)) (lossRef q) := by
  obtain ⟨h0, h1, h2, h3, h4, h5, h6, h7⟩ := accs
  interval_cases q
  exacts [h0, h1, h2, h3, h4, h5, h6, h7]

end Cert.Proof.Ref
end
-- ==== Proof.RefChain.lean ====
module

public import proofs.«01_k».proof.Proof.RefRead

@[expose] public section

/-!
# The chain of the reference's steps

The contents of the buffers after each step, and what they hold.
-/

set_option maxRecDepth 16384

noncomputable section

namespace Cert.Proof.Ref
open Cert.ReferenceIdeal Cert.ReferenceIdeal.Gen
open Idealize.ShloMosaic Idealize.ShloMosaic.TcCoe Idealize.ShloMosaic.StableHlo Idealize.SL.Sem
open Cert.Proof

/-- The operations of a step, in order. -/
def stepOps (q : Nat) : List (HloOp τ sig (Elt Ideal)) := findOps q ++ (takeOps q ++ accOps q)

/-- What a step writes. -/
def stepW (q : Nat) : List (Ref sig .tc) := findW q ++ (takeW q ++ accW q)

/-- The contents after `q` steps. -/
def W (U : Valuation τ sig (Elt Ideal)) : Nat → Valuation τ sig (Elt Ideal)
  | 0 => U
  | q + 1 => after (accOps q) (after (takeOps q) (after (findOps q) (W U q)))

/-- Two lines one after the other. -/
theorem after_two (l₁ l₂ : List (HloOp τ sig (Elt Ideal))) (V : Valuation τ sig (Elt Ideal)) :
    after (l₁ ++ l₂) V = after l₂ (after l₁ V) := by
  induction l₁ generalizing V with
  | nil => rfl
  | cons op l ih => exact ih _

/-- The whole line as its first stage, the eight steps and its last stage. -/
theorem after_stages (L : Valuation τ sig (Elt Ideal)) :
    after (stages (F := Ideal)).flatten L = after ops_post (W (after ops_pre L) 8) := by
  have h : (stages (F := Ideal)).flatten = ops_pre ++ (findOps 0 ++ (takeOps 0 ++ (accOps 0
      ++ (findOps 1 ++ (takeOps 1 ++ (accOps 1 ++ (findOps 2 ++ (takeOps 2 ++ (accOps 2
      ++ (findOps 3 ++ (takeOps 3 ++ (accOps 3 ++ (findOps 4 ++ (takeOps 4 ++ (accOps 4
      ++ (findOps 5 ++ (takeOps 5 ++ (accOps 5 ++ (findOps 6 ++ (takeOps 6 ++ (accOps 6
      ++ (findOps 7 ++ (takeOps 7 ++ (accOps 7 ++ ops_post)))))))))))))))))))))))) := by
    simp only [stages, List.flatten_cons, List.flatten_nil, findOps, takeOps, accOps]
    rfl
  rw [h]
  simp only [after_two, W]

/-- A buffer that the choice does not write keeps its value. -/
theorem find_keeps (q : Nat) (hq : q < 8) (x : Ref sig .tc) (h : x ∉ findW q) (V : Valuation τ sig (Elt Ideal)) :
    after (findOps q) V (Proc.devRef .tc x) = V (Proc.devRef .tc x) :=
  after_unwritten (findW q) (find_writes q hq) h V

/-- A buffer that the look-up does not write keeps its value. -/
theorem take_keeps (q : Nat) (hq : q < 8) (x : Ref sig .tc) (h : x ∉ takeW q) (V : Valuation τ sig (Elt Ideal)) :
    after (takeOps q) V (Proc.devRef .tc x) = V (Proc.devRef .tc x) :=
  after_unwritten (takeW q) (take_writes q hq) h V

/-- A buffer that the update does not write keeps its value. -/
theorem acc_keeps (q : Nat) (hq : q < 8) (x : Ref sig .tc) (h : x ∉ accW q) (V : Valuation τ sig (Elt Ideal)) :
    after (accOps q) V (Proc.devRef .tc x) = V (Proc.devRef .tc x) :=
  after_unwritten (accW q) (acc_writes q hq) h V

/-- A buffer that a step does not write keeps its value. -/
theorem step_keeps (U : Valuation τ sig (Elt Ideal)) (q : Nat) (hq : q < 8) (x : Ref sig .tc) (h : x ∉ stepW q) :
    W U (q + 1) (Proc.devRef .tc x) = W U q (Proc.devRef .tc x) := by
  simp only [stepW, List.mem_append, not_or] at h
  show after (accOps q) (after (takeOps q) (after (findOps q) (W U q))) _ = _
  rw [acc_keeps q hq x h.2.2, take_keeps q hq x h.2.1, find_keeps q hq x h.1]

/-- The buffers that no step writes. -/
theorem fixed_unwritten : ∀ q : Fin 8, ∀ x ∈ [main_v10, main_v16, main_arg3, main_arg4], x ∉ stepW q.val := by
  decide +kernel

/-- A step's choice does not write the step's inputs. -/
theorem inputs_unwritten : ∀ q : Fin 8, (resRef q.val).ref ∉ findW q.val ∧ (totRef q.val).ref ∉ findW q.val
    ∧ (resRef q.val).ref ∉ takeW q.val ∧ (totRef q.val).ref ∉ takeW q.val
    ∧ (idxRef q.val).ref ∉ takeW q.val ∧ (idxRef q.val).ref ∉ accW q.val := by
  decide +kernel

/-- No step writes an earlier step's places or loss. -/
theorem results_unwritten : ∀ q : Fin 8, ∀ j : Fin 8, j < q →
    (idxRef j.val).ref ∉ stepW q.val ∧ (lossRef j.val).ref ∉ stepW q.val := by
  decide +kernel

variable (U : Valuation τ sig (Elt Ideal))

/-- The scaled codebook at the start of the steps. -/
abbrev startCb : FVec Ideal S1024x256 .f32 := U (Proc.devRef .tc main_v10)
/-- The residual at the start of the steps. -/
abbrev startRes : FVec Ideal S4x2048x256 .f32 := U (Proc.devRef .tc main_v5)
/-- The total at the start of the steps. -/
abbrev startTot : FVec Ideal S4x2048x256 .f32 := U (Proc.devRef .tc main_v17)
/-- The regularising term at the start of the steps. -/
abbrev startOrtho : FVec Ideal S_ .f32 := U (Proc.devRef .tc main_v16)

/-- The fixed buffers after `q` steps. -/
theorem W_fixed (x : Ref sig .tc) (hx : x ∈ [main_v10, main_v16, main_arg3, main_arg4]) (q : Nat) (hq : q ≤ 8) :
    W U q (Proc.devRef .tc x) = U (Proc.devRef .tc x) := by
  induction q with
  | zero => rfl
  | succ q ih => rw [step_keeps U q (by omega) x (fixed_unwritten ⟨q, by omega⟩ x hx), ih (by omega)]

/-- A value that a line of operations keeps. -/
theorem val_kept {S : BufTy} {V V' : Valuation τ sig (Elt Ideal)} (x : TRef sig S)
    (h : V' (Proc.devRef .tc x.ref) = V (Proc.devRef .tc x.ref)) : val V' x = val V x := by
  unfold val
  rw [h]

/-- The state after `q` steps. -/
theorem W_state (q : Nat) (hq : q ≤ 8) :
    val (W U q) (resRef q) = resArr (startCb U) (startRes U) q
    ∧ val (W U q) (totRef q) = totArr (startCb U) (startRes U) (startTot U) q
    ∧ ∀ j < q, val (W U q) (idxRef j) = find (startCb U) (resArr (startCb U) (startRes U) j)
      ∧ val (W U q) (lossRef j) = lossArr (startOrtho U)
        (takeRows (startCb U) (find (startCb U) (resArr (startCb U) (startRes U) j)))
        (resArr (startCb U) (startRes U) j) := by
  induction q with
  | zero => exact ⟨rfl, rfl, fun j hj => absurd hj (Nat.not_lt_zero j)⟩
  | succ q ih =>
    obtain ⟨hr, ht, hj⟩ := ih (by omega)
    have hq' : q < 8 := by omega
    obtain ⟨n1, n2, n3, n4, n5, n6⟩ := inputs_unwritten ⟨q, hq'⟩
    have f := fixed_unwritten ⟨q, hq'⟩
    have f10 := f main_v10 (by simp)
    have f16 := f main_v16 (by simp)
    simp only [stepW, List.mem_append, not_or] at f10 f16
    have i1 : val (after (findOps q) (W U q)) (idxRef q) = find (startCb U) (resArr (startCb U) (startRes U) q) := by
      rw [finds_at q hq' (W U q), hr, W_fixed U main_v10 (by simp) q (by omega)]
    have c1 : after (findOps q) (W U q) (Proc.devRef .tc main_v10) = U (Proc.devRef .tc main_v10) := by
      rw [find_keeps q hq' _ f10.1, W_fixed U main_v10 (by simp) q (by omega)]
    have v2 : val (after (takeOps q) (after (findOps q) (W U q))) (vecRef q)
        = takeRows (startCb U) (find (startCb U) (resArr (startCb U) (startRes U) q)) := by
      rw [takes_at q hq' _, i1, c1]
    have r2 : val (after (takeOps q) (after (findOps q) (W U q))) (resRef q) = resArr (startCb U) (startRes U) q := by
      rw [val_kept _ (take_keeps q hq' _ n3 _), val_kept _ (find_keeps q hq' _ n1 _), hr]
    have t2 : val (after (takeOps q) (after (findOps q) (W U q))) (totRef q)
        = totArr (startCb U) (startRes U) (startTot U) q := by
      rw [val_kept _ (take_keeps q hq' _ n4 _), val_kept _ (find_keeps q hq' _ n2 _), ht]
    have o2 : after (takeOps q) (after (findOps q) (W U q)) (Proc.devRef .tc main_v16) = U (Proc.devRef .tc main_v16) := by
      rw [take_keeps q hq' _ f16.2.1, find_keeps q hq' _ f16.1, W_fixed U main_v16 (by simp) q (by omega)]
    obtain ⟨a1, a2, a3⟩ := accs_at q hq' (after (takeOps q) (after (findOps q) (W U q)))
    rw [o2, v2, r2] at a1
    rw [t2, v2, r2] at a2
    rw [v2, r2] at a3
    refine ⟨a3, a2, fun j hjq => ?_⟩
    rcases Nat.lt_succ_iff_lt_or_eq.mp hjq with h | rfl
    · obtain ⟨w1, w2⟩ := results_unwritten ⟨q, hq'⟩ ⟨j, by omega⟩ h
      rw [val_kept _ (step_keeps U q hq' _ w1), val_kept _ (step_keeps U q hq' _ w2)]
      exact hj j h
    · refine ⟨?_, a1⟩
      show val (after (accOps j) (after (takeOps j) (after (findOps j) (W U j)))) _ = _
      rw [val_kept _ (acc_keeps j hq' _ n6 _), val_kept _ (take_keeps j hq' _ n5 _), i1]

end Cert.Proof.Ref
end
-- ==== Proof.RefEnds.lean ====
module

public import proofs.«01_k».proof.Proof.RefStep
public import proofs.«01_k».proof.Proof.RefRun

@[expose] public section

/-!
# The first and the last stage of the reference

The encoder's rows, the scaled codebook and its regularising term; the stacked places and losses and the decoder.
-/

set_option maxRecDepth 16384

noncomputable section

namespace Cert.Proof.Ref
open Cert.ReferenceIdeal Cert.ReferenceIdeal.Gen
open Idealize.ShloMosaic Idealize.ShloMosaic.TcCoe Idealize.ShloMosaic.StableHlo Idealize.SL.Sem
open Cert.Proof

/-- The host's value of the scaled codebook. -/
def unitRows (x : FVec Ideal S1024x256 .f32) : FVec Ideal S1024x256 .f32 :=
  Host.divf x (broadcastInDim S1024x256 ![0, 1] bcast_S1024x1_S1024x256_0_1
    (addf (Host.sqrt (broadcastInDim S1024x1 ![0] bcast_S1024_S1024x1_0
      (Host.reduceAdd (mulf x x) (constant S_ .f32 0x00000000#32) reducesTo_S1024x256_S1024_d1 h_S_)))
      (broadcastInDim S1024x1 ![] bcast_S_S1024x1 (constant S_ .f32 0x2B8CBCCC#32))))

/-- A scaled codebook row. -/
theorem unitRows_at (x : FVec Ideal S1024x256 .f32) (k : Fin 1024) (d : Fin 256) :
    unitRows x (ix2 k d) = Spec.scaled (fun e => x (ix2 k e)) d := by
  pointwise [unitRows]
  rfl

/-- The regularising term of a scaled codebook. -/
def gramTerm (y : FVec Ideal S1024x256 .f32) : FVec Ideal S_ .f32 :=
  subf (Host.divf (Host.reduceAdd (mulf
      (Host.dotGeneral dot_S1024x256_S256x1024_S1024x1024_1_0_0_1_n_n none y
        (transpose S256x1024 [1, 0] y transposes_S1024x256_S256x1024_1_0))
      (Host.dotGeneral dot_S1024x256_S256x1024_S1024x1024_1_0_0_1_n_n none y
        (transpose S256x1024 [1, 0] y transposes_S1024x256_S256x1024_1_0)))
      (constant S_ .f32 0x00000000#32) reducesTo_S1024x1024_S_d0_1 h_S_) (constant S_ .f32 0x49800000#32))
    (constant S_ .f32 0x3A800000#32)

/-- The regularising term as sums. -/
theorem gramTerm_at (y : FVec Ideal S1024x256 .f32) (j : S_.Idx) : gramTerm y j
    = (Ideal.div (∑ i, ∑ k, (∑ d, entAt y i d * entAt y k d) * (∑ d, entAt y i d * entAt y k d))
        (Ideal.ofBits .f32 0x49800000#32) - Ideal.ofBits .f32 0x3A800000#32 : EReal) := by
  pointwise [gramTerm]
  rfl

/-- The encoder's value. -/
def encAt (x : FVec Ideal S4x64x2048 .f32) (w : FVec Ideal S256x64 .f32) (a : FVec Ideal S256 .f32) (b : Fin 4)
    (t : Fin 2048) (d : Fin 256) : EReal := (∑ i, (x (ix3 b i t) * w (ix2 d i) : EReal)) + a (ix1 d)

/-- The decoder's value. -/
def decAt (y : FVec Ideal S4x2048x256 .f32) (w : FVec Ideal S64x256 .f32) (a : FVec Ideal S64 .f32) (b : Fin 4)
    (t : Fin 2048) (i : Fin 64) : EReal := (∑ d, (y (ix3 b t d) * w (ix2 i d) : EReal)) + a (ix1 i)

section
variable (V : Valuation τ sig (Elt Ideal))

/-- The scaled codebook after the first stage. -/
theorem pre_cb : after (ops_pre (F := Ideal)) V (Proc.devRef .tc main_v10) = unitRows (V (Proc.devRef .tc main_arg5)) := by
  after_reads_simp
  simp only [StableHlo.TRef.ofBuf_toBuf]
  rfl

/-- The regularising term after the first stage. -/
theorem pre_ortho : after (ops_pre (F := Ideal)) V (Proc.devRef .tc main_v16)
    = gramTerm (unitRows (V (Proc.devRef .tc main_arg5))) := by
  after_reads_simp
  simp only [StableHlo.TRef.ofBuf_toBuf]
  rfl

/-- The encoder's rows after the first stage. -/
theorem pre_enc (b : Fin 4) (t : Fin 2048) (d : Fin 256) :
    (after (ops_pre (F := Ideal)) V (Proc.devRef .tc main_v5) : FVec Ideal S4x2048x256 .f32) (ix3 b t d)
      = encAt (V (Proc.devRef .tc main_arg0)) (V (Proc.devRef .tc main_arg1)) (V (Proc.devRef .tc main_arg2)) b t d := by
  after_reads_simp
  pointwise
  rfl

/-- The running total after the first stage. -/
theorem pre_tot (j : S4x2048x256.Idx) :
    (after (ops_pre (F := Ideal)) V (Proc.devRef .tc main_v17) : FVec Ideal S4x2048x256 .f32) j = (0 : EReal) := by
  after_reads_simp
  idx_vars j
  pointwise

/-- The first stage keeps the decoder's arguments. -/
theorem pre_args : after (ops_pre (F := Ideal)) V (Proc.devRef .tc main_arg3) = V (Proc.devRef .tc main_arg3)
    ∧ after (ops_pre (F := Ideal)) V (Proc.devRef .tc main_arg4) = V (Proc.devRef .tc main_arg4) := by
  after_reads_simp
  simp only [and_self]

/-- The decoder after the last stage. -/
theorem post_dec (b : Fin 4) (i : Fin 64) (t : Fin 2048) :
    (after (ops_post (F := Ideal)) V (Proc.devRef .tc main_v185) : FVec Ideal S4x64x2048 .f32) (ix3 b i t)
      = decAt (V (Proc.devRef .tc main_v160)) (V (Proc.devRef .tc main_arg3)) (V (Proc.devRef .tc main_arg4)) b t i := by
  after_reads_simp
  pointwise
  rfl

/-- The stacked places after the last stage. -/
theorem post_idx (b : Fin 4) (t : Fin 2048) :
    (fun q => (after (ops_post (F := Ideal)) V (Proc.devRef .tc main_v170) : IVec S4x2048x8 32) (ix3 b t q))
      = ![(V (Proc.devRef .tc main_v24) : IVec S4x2048 32) (ix2 b t), (V (Proc.devRef .tc main_v42) : IVec S4x2048 32) (ix2 b t),
        (V (Proc.devRef .tc main_v60) : IVec S4x2048 32) (ix2 b t), (V (Proc.devRef .tc main_v78) : IVec S4x2048 32) (ix2 b t),
        (V (Proc.devRef .tc main_v96) : IVec S4x2048 32) (ix2 b t), (V (Proc.devRef .tc main_v114) : IVec S4x2048 32) (ix2 b t),
        (V (Proc.devRef .tc main_v132) : IVec S4x2048 32) (ix2 b t), (V (Proc.devRef .tc main_v150) : IVec S4x2048 32) (ix2 b t)] := by
  funext q
  after_reads_simp
  fin_cases q <;> pointwise <;> after_reads_simp <;> pointwise

/-- The stacked losses after the last stage. -/
theorem post_loss :
    (fun q => (after (ops_post (F := Ideal)) V (Proc.devRef .tc main_v179) : FVec Ideal S8 .f32) (ix1 q))
      = ![(V (Proc.devRef .tc main_v33) : FVec Ideal S_ .f32) ix0, (V (Proc.devRef .tc main_v51) : FVec Ideal S_ .f32) ix0,
        (V (Proc.devRef .tc main_v69) : FVec Ideal S_ .f32) ix0, (V (Proc.devRef .tc main_v87) : FVec Ideal S_ .f32) ix0,
        (V (Proc.devRef .tc main_v105) : FVec Ideal S_ .f32) ix0, (V (Proc.devRef .tc main_v123) : FVec Ideal S_ .f32) ix0,
        (V (Proc.devRef .tc main_v141) : FVec Ideal S_ .f32) ix0, (V (Proc.devRef .tc main_v159) : FVec Ideal S_ .f32) ix0] := by
  funext q
  after_reads_simp
  fin_cases q <;> pointwise <;> after_reads_simp <;> pointwise

end

end Cert.Proof.Ref
end
-- ==== Proof.RefValue.lean ====
module

public import proofs.«01_k».proof.Proof.RefChain
public import proofs.«01_k».proof.Proof.RefEnds

@[expose] public section

/-!
# The results of the reference

Each result at an index, in the terms of the specification.
-/

set_option maxRecDepth 16384

noncomputable section

namespace Cert.Proof.Ref
open Cert.ReferenceIdeal Cert.ReferenceIdeal.Gen
open Idealize.ShloMosaic Idealize.ShloMosaic.TcCoe Idealize.ShloMosaic.StableHlo Idealize.SL.Sem
open Cert.Proof

variable (L : Valuation τ sig (Elt Ideal))

/-- The scaled codebook. -/
def cbOf (k : Fin 1024) (d : Fin 256) : EReal :=
  Spec.scaled (fun e => (L (Proc.devRef .tc main_arg5) : FVec Ideal S1024x256 .f32) (ix2 k e)) d

/-- The encoder's rows. -/
def encOf (b : Fin 4) (t : Fin 2048) (d : Fin 256) : EReal :=
  encAt (L (Proc.devRef .tc main_arg0)) (L (Proc.devRef .tc main_arg1)) (L (Proc.devRef .tc main_arg2)) b t d

/-- The contents at the start of the steps. -/
def startOf : Valuation τ sig (Elt Ideal) := after ops_pre L

/-- The codebook that the steps use. -/
theorem start_cb : entAt (startCb (startOf L)) = cbOf L := by
  funext k d
  unfold entAt startCb startOf
  rw [pre_cb]
  exact unitRows_at _ k d

/-- The rows that the steps start from. -/
theorem start_res (b : Fin 4) (t : Fin 2048) : rowAt (startRes (startOf L)) b t = encOf L b t := by
  funext d
  exact pre_enc L b t d

/-- The total that the steps start from. -/
theorem start_tot (j : S4x2048x256.Idx) : startTot (startOf L) j = (0 : EReal) := pre_tot L j

/-- The regularising term that the steps use. -/
theorem start_ortho (j : S_.Idx) : startOrtho (startOf L) j
    = (Ideal.div (∑ i, ∑ k, (∑ d, cbOf L i d * cbOf L k d) * (∑ d, cbOf L i d * cbOf L k d))
        (Ideal.ofBits .f32 0x49800000#32) - Ideal.ofBits .f32 0x3A800000#32 : EReal) := by
  have h := gramTerm_at (startCb (startOf L)) j
  rw [start_cb] at h
  rw [← h]
  unfold startOrtho startCb startOf
  rw [pre_ortho, pre_cb]

/-- The contents after the eight steps. -/
def endOf : Valuation τ sig (Elt Ideal) := W (startOf L) 8

/-- The total after the eight steps. -/
theorem end_tot (b : Fin 4) (t : Fin 2048) (d : Fin 256) :
    val (endOf L) (totRef 8) (ix3 b t d) = Spec.total (cbOf L) (encOf L b t) 8 d := by
  unfold endOf
  rw [(W_state (startOf L) 8 le_rfl).2.1, totArr_at _ _ _ (start_tot L), start_cb, start_res]

/-- The places of step `q` after the eight steps. -/
theorem end_idx (b : Fin 4) (t : Fin 2048) (q : Nat) (hq : q < 8) :
    val (endOf L) (idxRef q) (ix2 b t) = BitVec.ofNat 32 (Spec.pick (cbOf L) (encOf L b t) q).val := by
  unfold endOf
  rw [((W_state (startOf L) 8 le_rfl).2.2 q hq).1, find_step, start_cb, start_res]

/-- The loss of step `q` after the eight steps. -/
theorem end_loss (q : Nat) (hq : q < 8) (j : S_.Idx) :
    val (endOf L) (lossRef q) j
      = (Ideal.div (∑ b, ∑ t, ∑ d, Spec.diff (cbOf L) (encOf L b t) q d * Spec.diff (cbOf L) (encOf L b t) q d)
          (Ideal.ofBits .f32 0x4A000000#32) + Ideal.ofBits .f32 0x41200000#32
          * (Ideal.div (∑ i, ∑ k, (∑ d, cbOf L i d * cbOf L k d) * (∑ d, cbOf L i d * cbOf L k d))
              (Ideal.ofBits .f32 0x49800000#32) - Ideal.ofBits .f32 0x3A800000#32) : EReal) := by
  unfold endOf
  rw [((W_state (startOf L) 8 le_rfl).2.2 q hq).2, loss_step, start_ortho, start_cb]
  refine congrArg (fun x : EReal => Ideal.div x _ + _) (Finset.sum_congr rfl fun b _ => Finset.sum_congr rfl fun t _ => ?_)
  rw [start_res]

/-- The decoded result. -/
theorem result_dec (b : Fin 4) (i : Fin 64) (t : Fin 2048) :
    (after (stages (F := Ideal)).flatten L (Proc.devRef .tc main_v185) : FVec Ideal S4x64x2048 .f32) (ix3 b i t)
      = (∑ d, (Spec.total (cbOf L) (encOf L b t) 8 d
          * (L (Proc.devRef .tc main_arg3) : FVec Ideal S64x256 .f32) (ix2 i d) : EReal))
        + (L (Proc.devRef .tc main_arg4) : FVec Ideal S64 .f32) (ix1 i) := by
  rw [after_stages]
  refine (post_dec (endOf L) b i t).trans ?_
  have e3 : endOf L (Proc.devRef .tc main_arg3) = L (Proc.devRef .tc main_arg3) :=
    (W_fixed (startOf L) main_arg3 (by simp) 8 le_rfl).trans (pre_args L).1
  have e4 : endOf L (Proc.devRef .tc main_arg4) = L (Proc.devRef .tc main_arg4) :=
    (W_fixed (startOf L) main_arg4 (by simp) 8 le_rfl).trans (pre_args L).2
  rw [e3, e4]
  unfold decAt
  refine congrArg₂ (· + ·) (Finset.sum_congr rfl fun d _ => congrArg₂ (· * ·) (end_tot L b t d) rfl) rfl

/-- The places, stacked. -/
theorem result_idx (b : Fin 4) (t : Fin 2048) (q : Fin 8) :
    (after (stages (F := Ideal)).flatten L (Proc.devRef .tc main_v170) : IVec S4x2048x8 32) (ix3 b t q)
      = BitVec.ofNat 32 (Spec.pick (cbOf L) (encOf L b t) q.val).val := by
  rw [after_stages]
  refine (congrFun (post_idx (endOf L) b t) q).trans ?_
  rw [← end_idx L b t q.val q.isLt]
  fin_cases q <;> rfl

/-- The losses, stacked. -/
theorem result_loss (q : Fin 8) :
    (after (stages (F := Ideal)).flatten L (Proc.devRef .tc main_v179) : FVec Ideal S8 .f32) (ix1 q)
      = (Ideal.div (∑ b, ∑ t, ∑ d, Spec.diff (cbOf L) (encOf L b t) q.val d * Spec.diff (cbOf L) (encOf L b t) q.val d)
          (Ideal.ofBits .f32 0x4A000000#32) + Ideal.ofBits .f32 0x41200000#32
          * (Ideal.div (∑ i, ∑ k, (∑ d, cbOf L i d * cbOf L k d) * (∑ d, cbOf L i d * cbOf L k d))
              (Ideal.ofBits .f32 0x49800000#32) - Ideal.ofBits .f32 0x3A800000#32) : EReal) := by
  rw [after_stages]
  refine (congrFun (post_loss (endOf L)) q).trans ?_
  rw [← end_loss L q.val q.isLt ix0]
  fin_cases q <;> rfl

end Cert.Proof.Ref
end
-- ==== Proof.Equation.lean ====
module

public import proofs.«01_k».proof.Defs
public import proofs.«01_k».proof.Proof.KTail
public import proofs.«01_k».proof.Proof.RefValue
public import proofs.«01_k».proof.Proof.RefFrame
public import Idealize.ShloMosaic.Lib.Claim

@[expose] public section

/-!
# The kernel and the reference agree

From launches that hold the same arguments, each result of the reference is the kernel's.
-/

set_option maxRecDepth 16384

noncomputable section

namespace Cert.Proof.Equation
open Idealize.ShloMosaic Idealize.ShloMosaic.TcCoe Idealize.ShloMosaic.StableHlo Idealize.SL.Sem
open Cert.Proof

variable (m : (k : Loc KernelIdeal.nD KernelIdeal.τ KernelIdeal.sig) → Buf (Elt Ideal) k)
  (m' : (k : Loc ReferenceIdeal.nD ReferenceIdeal.τ ReferenceIdeal.sig) → Buf (Elt Ideal) k)
  (c : Dev KernelIdeal.nD)

/-- The two launches hold the same arguments. -/
def Agree : Prop :=
  m' ((c.tc : Thread ReferenceIdeal.nD ReferenceIdeal.τ).loc ReferenceIdeal.main_arg0) = Ker.inX m c
  ∧ m' ((c.tc : Thread ReferenceIdeal.nD ReferenceIdeal.τ).loc ReferenceIdeal.main_arg1) = Ker.inWe m c
  ∧ m' ((c.tc : Thread ReferenceIdeal.nD ReferenceIdeal.τ).loc ReferenceIdeal.main_arg2) = Ker.inBe m c
  ∧ m' ((c.tc : Thread ReferenceIdeal.nD ReferenceIdeal.τ).loc ReferenceIdeal.main_arg3) = Ker.inWd m c
  ∧ m' ((c.tc : Thread ReferenceIdeal.nD ReferenceIdeal.τ).loc ReferenceIdeal.main_arg4) = Ker.inBd m c
  ∧ m' ((c.tc : Thread ReferenceIdeal.nD ReferenceIdeal.τ).loc ReferenceIdeal.main_arg5) = Ker.inCb m c

variable {m m' c} (h : Agree m m' c)
include h

/-- The scaled codebooks agree. -/
theorem cb_eq : Ref.cbOf (launchContents m' c) = Ker.cbn m c := by
  funext k d
  show Spec.scaled (fun e => (m' ((c.tc : Thread ReferenceIdeal.nD ReferenceIdeal.τ).loc ReferenceIdeal.main_arg5)
    : FVec Ideal ReferenceIdeal.S1024x256 .f32) (ix2 k e)) d = _
  rw [h.2.2.2.2.2]
  rfl

/-- The encoder's rows agree. -/
theorem enc_eq (b : Fin 4) (t : Fin 2048) : Ref.encOf (launchContents m' c) b t = Ker.enc m c b t := by
  funext d
  show Ref.encAt (m' ((c.tc : Thread ReferenceIdeal.nD ReferenceIdeal.τ).loc ReferenceIdeal.main_arg0))
    (m' ((c.tc : Thread ReferenceIdeal.nD ReferenceIdeal.τ).loc ReferenceIdeal.main_arg1))
    (m' ((c.tc : Thread ReferenceIdeal.nD ReferenceIdeal.τ).loc ReferenceIdeal.main_arg2)) b t d = _
  rw [h.1, h.2.1, h.2.2.1]
  rfl

/-- The decoded results agree. -/
theorem dec_eq : after (Ref.stages (F := Ideal)).flatten (launchContents m' c) (Proc.devRef .tc ReferenceIdeal.main_v185)
    = Ker.res0 m c := by
  funext j
  idx_vars j
  refine (Ref.result_dec (launchContents m' c) j0 j1 j2).trans ?_
  rw [cb_eq h, enc_eq h]
  show (∑ d, (Spec.total (Ker.cbn m c) (Ker.enc m c j0 j2) 8 d
      * (m' ((c.tc : Thread ReferenceIdeal.nD ReferenceIdeal.τ).loc ReferenceIdeal.main_arg3)
        : FVec Ideal ReferenceIdeal.S64x256 .f32) (ix2 j1 d) : EReal))
    + (m' ((c.tc : Thread ReferenceIdeal.nD ReferenceIdeal.τ).loc ReferenceIdeal.main_arg4)
        : FVec Ideal ReferenceIdeal.S64 .f32) (ix1 j1) = _
  rw [h.2.2.2.1, h.2.2.2.2.1]
  rfl

/-- The chosen places agree. -/
theorem idx_eq : after (Ref.stages (F := Ideal)).flatten (launchContents m' c) (Proc.devRef .tc ReferenceIdeal.main_v170)
    = Ker.G11 m c := by
  funext j
  idx_vars j
  refine (Ref.result_idx (launchContents m' c) j0 j1 j2).trans ?_
  rw [cb_eq h, enc_eq h]
  rfl

/-- The losses agree. -/
theorem loss_eq : after (Ref.stages (F := Ideal)).flatten (launchContents m' c) (Proc.devRef .tc ReferenceIdeal.main_v179)
    = Ker.res2 m c := by
  funext j
  idx_vars j
  refine (Ref.result_loss (launchContents m' c) j0).trans ?_
  rw [cb_eq h]
  refine congrArg (fun x : EReal => Ideal.div x _ + _) (Finset.sum_congr rfl fun b _ => Finset.sum_congr rfl fun t _ => ?_)
  rw [enc_eq h]
  rfl

omit h

/-- The kernel's results are the reference's. -/
theorem algebraic : Cert.algebraic_KernelIdeal_ReferenceIdeal (hKernelIdeal := KernelIdeal.Gen.facts)
    (hReferenceIdeal := ReferenceIdeal.Gen.facts) := by
  intro m g m' g' _ hagree
  refine ⟨Ker.res0 m, Ker.G11 m, Ker.res2 m, ?_, ?_⟩
  · refine (θ_run _ _ _).mono (fun r hr c => ?_) (θ_run_and (Ker.results m g) (KernelIdeal.Gen.unchanged m g))
    exact ⟨(hr.1 c).1, (hr.1 c).2.1, (hr.1 c).2.2, hr.2 c⟩
  · refine (θ_run _ _ _).mono (fun r hr c => ?_) (θ_run_and (Ref.run m' g') (Ref.frame m' g'))
    have h : Agree m m' c := hagree c
    exact ⟨(hr.1 c _).trans (dec_eq h), (hr.1 c _).trans (idx_eq h), (hr.1 c _).trans (loss_eq h), hr.2.1 c⟩

end Cert.Proof.Equation
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefFrame
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The claims of the certificate. -/
theorem claim : Cert.Claim := ⟨Cert.Kernel.Gen.facts, Cert.KernelIdeal.Gen.facts, Cert.ReferenceIdeal.Gen.facts, fun m ρ _ => Cert.Kernel.Gen.frame m ρ,
   fun m ρ _ => Cert.KernelIdeal.Gen.frame m ρ, fun m ρ _ => Ref.frame m ρ, trivial, Equation.algebraic⟩

end Cert.Proof

end
